-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_logit_and_nonnegative_target [hPre_some_logit_and_nonnegative_target : Cert.Pre_some_logit_and_nonnegative_target.Facts] (m : (ℓ : Loc Cert.KernelIdeal.nD Cert.KernelIdeal.τ Cert.KernelIdeal.sig) → Buf (Elt Ideal) ℓ) : Prop :=
  ∀ c : Dev Cert.KernelIdeal.nD,
    (Cert.Pre_some_logit_and_nonnegative_target.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_logit_and_nonnegative_target [hPre_some_logit_and_nonnegative_target : Cert.Pre_some_logit_and_nonnegative_target.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_logit_and_nonnegative_target.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_some_logit_and_nonnegative_target [hKernelIdeal : Cert.KernelIdeal.Facts] [hPre_some_logit_and_nonnegative_target : Cert.Pre_some_logit_and_nonnegative_target.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_logit_and_nonnegative_target m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_some_logit_and_nonnegative_target [hReferenceIdeal : Cert.ReferenceIdeal.Facts] [hPre_some_logit_and_nonnegative_target : Cert.Pre_some_logit_and_nonnegative_target.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_logit_and_nonnegative_target m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_some_logit_and_nonnegative_target [hKernelIdeal : Cert.KernelIdeal.Facts] [hReferenceIdeal : Cert.ReferenceIdeal.Facts] [hPre_some_logit_and_nonnegative_target : Cert.Pre_some_logit_and_nonnegative_target.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_logit_and_nonnegative_target m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_some_logit_and_nonnegative_target : Cert.Pre_some_logit_and_nonnegative_target.Facts),
    quiescent_Kernel (hKernel := hKernel)
    ∧ quiescent_KernelIdeal (hKernelIdeal := hKernelIdeal)
    ∧ quiescent_KernelIdeal_pre_some_logit_and_nonnegative_target (hKernelIdeal := hKernelIdeal) (hPre_some_logit_and_nonnegative_target := hPre_some_logit_and_nonnegative_target)
    ∧ quiescent_ReferenceIdeal (hReferenceIdeal := hReferenceIdeal)
    ∧ quiescent_ReferenceIdeal_pre_some_logit_and_nonnegative_target (hReferenceIdeal := hReferenceIdeal) (hPre_some_logit_and_nonnegative_target := hPre_some_logit_and_nonnegative_target)
    ∧ preserves_Kernel_KernelIdeal
    ∧ algebraic_KernelIdeal_ReferenceIdeal_pre_some_logit_and_nonnegative_target (hKernelIdeal := hKernelIdeal) (hReferenceIdeal := hReferenceIdeal) (hPre_some_logit_and_nonnegative_target := hPre_some_logit_and_nonnegative_target)
-- ==== Pre_some_logit_and_nonnegative_target.lean ====
abbrev S4x96x224x224 : Shape := ⟨4, ![4, 96, 224, 224]⟩
abbrev S4x224x224 : Shape := ⟨3, ![4, 224, 224]⟩
abbrev S96 : Shape := ⟨1, ![96]⟩
abbrev S_ : Shape := ⟨0, ![]⟩

class Facts : Prop where
  reducesTo_S4x96x224x224_S4x224x224_d1 : S4x96x224x224.ReducesTo [1] S4x224x224
  h_S_ : 0 < S_.numel
  bcast_S_S4x224x224 : S_.BroadcastsInDim S4x224x224 (![] : Fin 0 → Fin S4x224x224.rank)
  reducesTo_S4x224x224_S_d0_1_2 : S4x224x224.ReducesTo [0, 1, 2] S_

variable [Facts]

def fn {F : FTy → Type} [FloatOps F] (main_arg0 : FVec F S4x96x224x224 .f32) (main_arg1 : IVec S4x224x224 32) (main_arg2 : FVec F S96 .f32) : IVec S_ 1 :=
  let main_cst : FVec F S_ .f32 := constant S_ .f32 0xFF800000#32
  let main_v0 : FVec F S4x224x224 .f32 := (fun x v => Host.reduce FloatOps.maximumf x v reducesTo_S4x96x224x224_S4x224x224_d1 h_S_) main_arg0 main_cst
  let main_cst_0 : FVec F S_ .f32 := constant S_ .f32 0xFF800000#32
  let main_v1 : FVec F S4x224x224 .f32 := broadcastInDim S4x224x224 ![] bcast_S_S4x224x224 main_cst_0
  let main_v2 : IVec S4x224x224 1 := cmpf .ogt main_v0 main_v1
  let main_c : IVec S_ 1 := constantI S_ 1 1#1
  let main_v3 : IVec S_ 1 := (fun x v => Host.reduce IntOp.andi x v reducesTo_S4x224x224_S_d0_1_2 h_S_) main_v2 main_c
  let main_c_1 : IVec S_ 32 := constantI S_ 32 0#32
  let main_v4 : IVec S4x224x224 32 := broadcastInDim S4x224x224 ![] bcast_S_S4x224x224 main_c_1
  let main_v5 : IVec S4x224x224 1 := cmpi .sge main_arg1 main_v4
  let main_c_2 : IVec S_ 1 := constantI S_ 1 1#1
  let main_v6 : IVec S_ 1 := (fun x v => Host.reduce IntOp.andi x v reducesTo_S4x224x224_S_d0_1_2 h_S_) main_v5 main_c_2
  let main_v7 : IVec S_ 1 := andi main_v3 main_v6
  main_v7
-- ==== Kernel.lean ====
abbrev S4x96x224x224 : Shape := ⟨4, ![4, 96, 224, 224]⟩
abbrev S4x224x224 : Shape := ⟨3, ![4, 224, 224]⟩
abbrev S96 : Shape := ⟨1, ![96]⟩
abbrev S4x96x50176 : Shape := ⟨3, ![4, 96, 50176]⟩
abbrev S4x1x50176 : Shape := ⟨3, ![4, 1, 50176]⟩
abbrev S96x1 : Shape := ⟨2, ![96, 1]⟩
abbrev S96x128 : Shape := ⟨2, ![96, 128]⟩
abbrev S1x1 : Shape := ⟨2, ![1, 1]⟩
abbrev S1x96x12544 : Shape := ⟨3, ![1, 96, 12544]⟩
abbrev S1x1x12544 : Shape := ⟨3, ![1, 1, 12544]⟩
abbrev S4x96x128 : Shape := ⟨3, ![4, 96, 128]⟩
abbrev S1x96x6272 : Shape := ⟨3, ![1, 96, 6272]⟩
abbrev S96x6272 : Shape := ⟨2, ![96, 6272]⟩
abbrev S6272 : Shape := ⟨1, ![6272]⟩
abbrev S1x6272 : Shape := ⟨2, ![1, 6272]⟩
abbrev S1x1x6272 : Shape := ⟨3, ![1, 1, 6272]⟩
abbrev S1x96x128 : Shape := ⟨3, ![1, 96, 128]⟩
abbrev S1x96x1 : Shape := ⟨3, ![1, 96, 1]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4x96x224x224, .f32⟩
  | .hbm, ⟨1, _⟩ => ⟨S4x224x224, .i32⟩
  | .hbm, ⟨2, _⟩ => ⟨S96, .f32⟩
  | .hbm, ⟨3, _⟩ => ⟨S4x96x50176, .f32⟩
  | .hbm, ⟨4, _⟩ => ⟨S4x1x50176, .i32⟩
  | .hbm, ⟨5, _⟩ => ⟨S96x1, .f32⟩
  | .hbm, ⟨6, _⟩ => ⟨S96x128, .f32⟩
  | .hbm, ⟨7, _⟩ => ⟨S1x1, .f32⟩
  | .hbm, ⟨8, _⟩ => ⟨S_, .f32⟩
  | .local _ .vmem, ⟨0, _⟩ => ⟨S1x96x12544, .f32⟩
  | .local _ .vmem, ⟨1, _⟩ => ⟨S1x96x12544, .f32⟩
  | .local _ .vmem, ⟨2, _⟩ => ⟨S1x1x12544, .i32⟩
  | .local _ .vmem, ⟨3, _⟩ => ⟨S1x1x12544, .i32⟩
  | .local _ .vmem, ⟨4, _⟩ => ⟨S96x128, .f32⟩
  | .local _ .vmem, ⟨5, _⟩ => ⟨S1x1, .f32⟩
  | .local _ .vmem, ⟨6, _⟩ => ⟨S4x96x128, .f32⟩
  | .local _ .vmem, ⟨7, _⟩ => ⟨S4x96x128, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v440 : BitVec 1 := Scalar.cmpi .eq arg1 c0_i32
  let v441 : BitVec 32 := Scalar.extui v440
  let c0_i32_23 : BitVec 32 := 0#32
  let v442 : BitVec 1 := Scalar.cmpi .ne v441 c0_i32_23
  v442

def k0_off1 (i : grid0.Coords) : Fin 3 → Nat :=
  let arg0 : BitVec 32 := BitVec.ofNat 32 (i 0).val
  let v451 : Index := Scalar.indexCast arg0
  let c0_28 : Index := 0#32
  let c0_29 : Index := 0#32
  ![v451.toNat, 0, 0]
def k0_cond2 (i : grid0.Coords) : BitVec 1 :=
  let arg1 : BitVec 32 := BitVec.ofNat 32 (i 1).val
  let c0_i32_24 : BitVec 32 := 0#32
  let v443 : BitVec 1 := Scalar.cmpi .ne arg1 c0_i32_24
  let v444 : BitVec 32 := Scalar.extui v443
  let c0_i32_25 : BitVec 32 := 0#32
  let v445 : BitVec 1 := Scalar.cmpi .ne v444 c0_i32_25
  v445

def k0_off2 (i : grid0.Coords) : Fin 3 → Nat :=
  let arg0 : BitVec 32 := BitVec.ofNat 32 (i 0).val
  let v451 : Index := Scalar.indexCast arg0
  let c0_28 : Index := 0#32
  let c0_29 : Index := 0#32
  ![v451.toNat, 0, 0]
def k0_cond3 (i : grid0.Coords) : BitVec 1 :=
  let arg0 : BitVec 32 := BitVec.ofNat 32 (i 0).val
  let c3_i32 : BitVec 32 := 3#32
  let v446 : BitVec 1 := Scalar.cmpi .eq arg0 c3_i32
  let arg1 : BitVec 32 := BitVec.ofNat 32 (i 1).val
  let c3_i32_26 : BitVec 32 := 3#32
  let v447 : BitVec 1 := Scalar.cmpi .eq arg1 c3_i32_26
  let v448 : BitVec 1 := Scalar.andi v446 v447
  let v449 : BitVec 32 := Scalar.extui v448
  let c0_i32_27 : BitVec 32 := 0#32
  let v450 : BitVec 1 := Scalar.cmpi .ne v449 c0_i32_27
  v450

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x96x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12544 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x96x224x224 : Shape := ⟨4, ![4, 96, 224, 224]⟩
abbrev S4x224x224 : Shape := ⟨3, ![4, 224, 224]⟩
abbrev S96 : Shape := ⟨1, ![96]⟩
abbrev S_ : Shape := ⟨0, ![]⟩
abbrev S4x1x224x224 : Shape := ⟨4, ![4, 1, 224, 224]⟩
abbrev S4x50176 : Shape := ⟨2, ![4, 50176]⟩
abbrev S4x96x50176 : Shape := ⟨3, ![4, 96, 50176]⟩
abbrev S4 : Shape := ⟨1, ![4]⟩
abbrev S4x1 : Shape := ⟨2, ![4, 1]⟩
abbrev S50176 : Shape := ⟨1, ![50176]⟩
abbrev S1x50176 : Shape := ⟨2, ![1, 50176]⟩
abbrev S4x50176x1 : Shape := ⟨3, ![4, 50176, 1]⟩
abbrev S4x50176x3 : Shape := ⟨3, ![4, 50176, 3]⟩
abbrev S4x96 : Shape := ⟨2, ![4, 96]⟩
abbrev S1x96 : Shape := ⟨2, ![1, 96]⟩

abbrev nBuf : Space → Nat
  | .hbm => 86
  | .vmem => 0
  | .smem => 0
  | _ => 0

abbrev bufTy : (tb : Table) → Fin (tcTables nBuf tb) → BufTy
  | .hbm, ⟨0, _⟩ => ⟨S4x96x224x224, .f32⟩
  | .hbm, ⟨1, _⟩ => ⟨S4x224x224, .i32⟩
  | .hbm, ⟨2, _⟩ => ⟨S96, .f32⟩
  | .hbm, ⟨3, _⟩ => ⟨S_, .f32⟩
  | .hbm, ⟨4, _⟩ => ⟨S_, .f32⟩
  | .hbm, ⟨5, _⟩ => ⟨S96, .f32⟩
  | .hbm, ⟨6, _⟩ => ⟨S96, .f32⟩
  | .hbm, ⟨7, _⟩ => ⟨S_, .f32⟩
  | .hbm, ⟨8, _⟩ => ⟨S4x224x224, .f32⟩
  | .hbm, ⟨9, _⟩ => ⟨S_, .f32⟩
  | .hbm, ⟨10, _⟩ => ⟨S4x224x224, .f32⟩
  | .hbm, ⟨11, _⟩ => ⟨S4x224x224, .f32⟩
  | .hbm, ⟨12, _⟩ => ⟨S4x1x224x224, .f32⟩
  | .hbm, ⟨13, _⟩ => ⟨S4x96x224x224, .f32⟩
  | .hbm, ⟨14, _⟩ => ⟨S4x96x224x224, .f32⟩
  | .hbm, ⟨15, _⟩ => ⟨S4x96x224x224, .f32⟩
  | .hbm, ⟨16, _⟩ => ⟨S_, .f32⟩
  | .hbm, ⟨17, _⟩ => ⟨S4x224x224, .f32⟩
  | .hbm, ⟨18, _⟩ => ⟨S4x1x224x224, .f32⟩
  | .hbm, ⟨19, _⟩ => ⟨S4x1x224x224, .f32⟩
  | .hbm, ⟨20, _⟩ => ⟨S4x96x224x224, .f32⟩
  | .hbm, ⟨21, _⟩ => ⟨S4x96x224x224, .f32⟩
  | .hbm, ⟨22, _⟩ => ⟨S4x96x224x224, .f32⟩
  | .hbm, ⟨23, _⟩ => ⟨S4x50176, .i32⟩
  | .hbm, ⟨24, _⟩ => ⟨S4x96x50176, .f32⟩
  | .hbm, ⟨25, _⟩ => ⟨S_, .f32⟩
  | .hbm, ⟨26, _⟩ => ⟨S4x96x50176, .f32⟩
  | .hbm, ⟨27, _⟩ => ⟨S4, .i32⟩
  | .hbm, ⟨28, _⟩ => ⟨S4x1, .i32⟩
  | .hbm, ⟨29, _⟩ => ⟨S50176, .i32⟩
  | .hbm, ⟨30, _⟩ => ⟨S1x50176, .i32⟩
  | .hbm, ⟨31, _⟩ => ⟨S_, .i32⟩
  | .hbm, ⟨32, _⟩ => ⟨S4x1, .i32⟩
  | .hbm, ⟨33, _⟩ => ⟨S4x1, .i1⟩
  | .hbm, ⟨34, _⟩ => ⟨S_, .i32⟩
  | .hbm, ⟨35, _⟩ => ⟨S4x1, .i32⟩
  | .hbm, ⟨36, _⟩ => ⟨S4x1, .i32⟩
  | .hbm, ⟨37, _⟩ => ⟨S4x1, .i32⟩
  | .hbm, ⟨38, _⟩ => ⟨S_, .i32⟩
  | .hbm, ⟨39, _⟩ => ⟨S4x50176, .i32⟩
  | .hbm, ⟨40, _⟩ => ⟨S4x50176, .i1⟩
  | .hbm, ⟨41, _⟩ => ⟨S_, .i32⟩
  | .hbm, ⟨42, _⟩ => ⟨S4x50176, .i32⟩
  | .hbm, ⟨43, _⟩ => ⟨S4x50176, .i32⟩
  | .hbm, ⟨44, _⟩ => ⟨S4x50176, .i32⟩
  | .hbm, ⟨45, _⟩ => ⟨S_, .i32⟩
  | .hbm, ⟨46, _⟩ => ⟨S1x50176, .i32⟩
  | .hbm, ⟨47, _⟩ => ⟨S1x50176, .i1⟩
  | .hbm, ⟨48, _⟩ => ⟨S_, .i32⟩
  | .hbm, ⟨49, _⟩ => ⟨S1x50176, .i32⟩
  | .hbm, ⟨50, _⟩ => ⟨S1x50176, .i32⟩
  | .hbm, ⟨51, _⟩ => ⟨S1x50176, .i32⟩
  | .hbm, ⟨52, _⟩ => ⟨S4x50176, .i32⟩
  | .hbm, ⟨53, _⟩ => ⟨S4x50176, .i32⟩
  | .hbm, ⟨54, _⟩ => ⟨S4x50176x1, .i32⟩
  | .hbm, ⟨55, _⟩ => ⟨S4x50176x1, .i32⟩
  | .hbm, ⟨56, _⟩ => ⟨S4x50176x1, .i32⟩
  | .hbm, ⟨57, _⟩ => ⟨S4x50176x3, .i32⟩
  | .hbm, ⟨58, _⟩ => ⟨S_, .f32⟩
  | .hbm, ⟨59, _⟩ => ⟨S4x50176, .f32⟩
  | .hbm, ⟨60, _⟩ => ⟨S4x96x50176, .f32⟩
  | .hbm, ⟨61, _⟩ => ⟨S4x96x50176, .f32⟩
  | .hbm, ⟨62, _⟩ => ⟨S_, .f32⟩
  | .hbm, ⟨63, _⟩ => ⟨S4x96, .f32⟩
  | .hbm, ⟨64, _⟩ => ⟨S_, .f32⟩
  | .hbm, ⟨65, _⟩ => ⟨S4x96, .f32⟩
  | .hbm, ⟨66, _⟩ => ⟨S_, .f32⟩
  | .hbm, ⟨67, _⟩ => ⟨S4x96, .f32⟩
  | .hbm, ⟨68, _⟩ => ⟨S4x96, .f32⟩
  | .hbm, ⟨69, _⟩ => ⟨S_, .f32⟩
  | .hbm, ⟨70, _⟩ => ⟨S4x96, .f32⟩
  | .hbm, ⟨71, _⟩ => ⟨S4x96, .f32⟩
  | .hbm, ⟨72, _⟩ => ⟨S4x96, .f32⟩
  | .hbm, ⟨73, _⟩ => ⟨S_, .f32⟩
  | .hbm, ⟨74, _⟩ => ⟨S4x96, .f32⟩
  | .hbm, ⟨75, _⟩ => ⟨S4x96, .f32⟩
  | .hbm, ⟨76, _⟩ => ⟨S1x96, .f32⟩
  | .hbm, ⟨77, _⟩ => ⟨S4x96, .f32⟩
  | .hbm, ⟨78, _⟩ => ⟨S4x96, .f32⟩
  | .hbm, ⟨79, _⟩ => ⟨S_, .f32⟩
  | .hbm, ⟨80, _⟩ => ⟨S4x96, .f32⟩
  | .hbm, ⟨81, _⟩ => ⟨S4x96, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Proof.KernelIdeal.Runs.lean ====
/- What the runs of the kernel's body share: the branch conditions over the grid's points, where the output window is
   idle, the staging and scratch memrefs, and the values one point computes as functions of its blocks. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

theorem coord0 (t : Fin cfg0.N) : (grid0.coords t 0).val = t.val / 4 := by
  have ht : t.val < 16 := Nat.lt_of_lt_of_eq t.isLt N_0
  have e0 : (grid0.coords t 0).val = t.val / 4 % 4 := Pipeline.Grid.coords_val t 0 (by decide) rfl
  omega

/-- The first store's condition: the first of the four column blocks of an image. -/
theorem cond1_iff (t : Fin cfg0.N) : k0_cond1 (grid0.coords t) = 1#1 ↔ t.val % 4 = 0 := by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  simp only [k0_cond1, e0, e1]
  word_cmp

/-- The added store's condition: any later block. -/
theorem cond2_iff (t : Fin cfg0.N) : k0_cond2 (grid0.coords t) = 1#1 ↔ ¬t.val % 4 = 0 := by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  simp only [k0_cond2, e0, e1]
  word_cmp

/-- The final store's condition: the last point. -/
theorem cond3_iff (t : Fin cfg0.N) : k0_cond3 (grid0.coords t) = 1#1 ↔ t.val = 15 := by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  simp only [k0_cond3, e0, e1]
  word_cmp

/-! ## Idle windows, staging and scratch memrefs -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem idle3 : ∀ t : Fin cfg0.N, ¬k0_cond3 (grid0.coords t) = 1#1 → cfg0.idle 3 (grid0.coords t) = true := by decide +kernel
theorem noFlush3 : ∀ t : Fin cfg0.N, ¬k0_cond3 (grid0.coords t) = 1#1 → (cfg0.win 3).flush t = false := by decide +kernel
theorem live3 : ∀ t : Fin cfg0.N, k0_cond3 (grid0.coords t) = 1#1 → cfg0.idle 3 (grid0.coords t) = false := by decide +kernel

abbrev ms0 (t : Fin cfg0.N) : Memref sig .tc .vmem S1x96x12544 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x12544 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S96x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev scr6 : Memref sig .tc .vmem S4x96x128 .f32 := Memref.whole cc0_scratch0
abbrev scr7 : Memref sig .tc .vmem S4x96x128 .f32 := Memref.whole cc0_scratch1

/-- The class's invariant with the two scratches as memrefs owned at some contents. -/
theorem PhiA_eq (c : Dev nD) :
    (Pipeline.ΦA spec0 c : sProp 𝕄)
      = iprop(iprop((∃ d, owns (c : Thread nD τ) scr6 fullShare d) ∗ (∃ d, owns (c : Thread nD τ) scr7 fullShare d)) ∗ (∃ r, prngReg c r)) := by
  unfold Pipeline.ΦA; rw [scopedRest0_eq]; simp only [scr6, scr7, owns_whole]; try rfl

/-! ## What one point computes -/

section Values

variable (x0 : Vec F S1x96x12544 .f32) (x1 : Vec F S1x1x12544 .i32)

/-- The two column chunks of the logits' and the labels' blocks. -/
def xa : Vec F S1x96x6272 .f32 := View.ld x0 (Rect.unit (s := S1x96x12544) ![0, 0, 0] S1x96x6272.size inb_S1x96x12544_S1x96x6272_0_0_0)
def xb : Vec F S1x96x6272 .f32 := View.ld x0 (Rect.unit (s := S1x96x12544) ![0, 0, 6272] S1x96x6272.size inb_S1x96x12544_S1x96x6272_0_0_6272)
def ya : Vec F S1x1x6272 .i32 := View.ld x1 (Rect.unit (s := S1x1x12544) ![0, 0, 0] S1x1x6272.size inb_S1x1x12544_S1x1x6272_0_0_0)
def yb : Vec F S1x1x6272 .i32 := View.ld x1 (Rect.unit (s := S1x1x12544) ![0, 0, 6272] S1x1x6272.size inb_S1x1x12544_S1x1x6272_0_0_6272)

/-- The running sums of the masked probabilities (`tp`) and of the masks (`tt`) up to the point's last few slices, through the body's parts. -/
def tp1 : FVec F S96x128 .f32 := k0_pay14 (k0_pay8 (xa x0) (ya x1)) (k0_pay11 (xa x0) (ya x1))
def tt1 : FVec F S96x128 .f32 := k0_pay13 (k0_pay9 (ya x1)) (k0_pay10 (ya x1)) (k0_pay12 (ya x1))
def tp2 : FVec F S96x128 .f32 := k0_pay17 (k0_pay8 (xa x0) (ya x1)) (tp1 x0 x1)
def tt2 : FVec F S96x128 .f32 := k0_pay16 (k0_pay9 (ya x1)) (tt1 x1) (k0_pay15 (k0_pay9 (ya x1)))
def tp3 : FVec F S96x128 .f32 := k0_pay19 (k0_pay8 (xa x0) (ya x1)) (tp2 x0 x1)
def tt3 : FVec F S96x128 .f32 := k0_pay20 (k0_pay9 (ya x1)) (tt2 x1) (k0_pay18 (k0_pay9 (ya x1)))
def tp4 : FVec F S96x128 .f32 := k0_pay24 (tp3 x0 x1) (xb x0) (yb x1)
def tt4 : FVec F S96x128 .f32 := k0_pay25 (tt3 x1) (yb x1)
def tp5 : FVec F S96x128 .f32 := k0_pay26 (k0_pay22 (xb x0) (yb x1)) (tp4 x0 x1)
def tt5 : FVec F S96x128 .f32 := k0_pay27 (k0_pay23 (yb x1)) (tt4 x1)
def tp6 : FVec F S96x128 .f32 := k0_pay28 (k0_pay22 (xb x0) (yb x1)) (tp5 x0 x1)
def tt6 : FVec F S96x128 .f32 := k0_pay29 (k0_pay23 (yb x1)) (tt5 x1)

/-- What the first block of an image stores in its scratch row, and what a later one stores over the row `p`. -/
def first6 : FVec F S1x96x128 .f32 := k0_pay32 (k0_pay22 (xb x0) (yb x1)) (tp6 x0 x1)
def first7 : FVec F S1x96x128 .f32 := k0_pay33 (k0_pay23 (yb x1)) (tt6 x1)
def next6 (p : Vec F S1x96x128 .f32) : FVec F S1x96x128 .f32 := k0_pay34 (k0_pay22 (xb x0) (yb x1)) (tp6 x0 x1) p
def next7 (p : Vec F S1x96x128 .f32) : FVec F S1x96x128 .f32 := k0_pay35 (k0_pay23 (yb x1)) (tt6 x1) p

end Values

theorem row_inb (n : ℕ) (hn : n < 4) : ∀ a, (![n, 0, 0] : Fin 3 → ℕ) a + S1x96x128.size a ≤ S4x96x128.size a := by
  intro a
  fin_cases a
  · show n + 1 ≤ 4; omega
  · exact Nat.le_refl _
  · exact Nat.le_refl _

/-- Row `n` of a scratch, and the scratch with a row replaced. -/
def row (s : Vec F S4x96x128 .f32) (n : Fin 4) : Vec F S1x96x128 .f32 :=
  VecWindow.window (s := S4x96x128) s ![n.val, 0, 0] S1x96x128.size (row_inb n.val n.isLt)
def setRow (s : Vec F S4x96x128 .f32) (n : Fin 4) (w : Vec F S1x96x128 .f32) : Vec F S4x96x128 .f32 :=
  VecWindow.put (s := S4x96x128) s ![n.val, 0, 0] S1x96x128.size w

theorem row_setRow (s : Vec F S4x96x128 .f32) (n : Fin 4) (w : Vec F S1x96x128 .f32) : row (setRow s n w) n = w :=
  VecWindow.window_put_same (s := S4x96x128) s _ _ _ w

theorem row_setRow_ne (s : Vec F S4x96x128 .f32) (n k : Fin 4) (w : Vec F S1x96x128 .f32) (h : k ≠ n) : row (setRow s n w) k = row s k :=
  VecWindow.window_put_of_disjoint (s := S4x96x128) s _ _ _ _ _ w 0 (by
    have : k.val ≠ n.val := fun e => h (Fin.ext e)
    show k.val + 1 ≤ n.val ∨ n.val + 1 ≤ k.val
    omega)

/-- The weight column the last point reads. -/
def wcol (x2 : Vec F S96x128 .f32) : Vec F S96x1 .f32 :=
  View.ld x2 (Rect.unit (s := S96x128) ![0, 0] S96x1.size inb_S96x128_S96x1_0_0)

/-- What the last point stores in the output, from the weights and the scratches' rows. -/
def fin (x2 : Vec F S96x128 .f32) (r6 r7 : Fin 4 → Vec F S1x96x128 .f32) : FVec F S1x1 .f32 :=
  k0_pay1 (k0_pay2 (wcol x2))
    (k0_pay5 (k0_pay2 (wcol x2)) (k0_pay3 (wcol x2) (r6 0) (r7 0)) (k0_pay4 (r6 1)) (r7 1) (r6 2) (r7 2)) (k0_pay6 (r6 3)) (r7 3)

end Cert.KernelIdeal.Hand

end
-- ==== Proof.KernelIdeal.RunA.lean ====
/- The body's run at the first column block of an image: both scratch rows of the image are stored. -/
module

public import proofs.«01_k».proof.Proof.KernelIdeal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first block of an image: the image's row of each scratch is replaced, the output is left alone. -/
theorem run_first (c : Dev nD) (i : grid0.Coords) (arg2 : Memref sig .tc .vmem S1x96x12544 .f32) (harg2 : arg2.IsWhole) (arg3 : Memref sig .tc .vmem S1x1x12544 .i32) (harg3 : arg3.IsWhole) (arg4 : Memref sig .tc .vmem S96x128 .f32) (harg4 : arg4.IsWhole) (arg5 : Memref sig .tc .vmem S1x1 .f32) (harg5 : arg5.IsWhole) (arg6 : Memref sig .tc .vmem S4x96x128 .f32) (harg6 : arg6.IsWhole) (arg7 : Memref sig .tc .vmem S4x96x128 .f32) (harg7 : arg7.IsWhole)
    (hc1 : k0_cond1 i = 1#1) (hc2 : ¬k0_cond2 i = 1#1) (hc3 : ¬k0_cond3 i = 1#1) (n : Fin 4) (hn : (i 0).val = n.val)
    (x0 : Vec F S1x96x12544 .f32) (x1 : Vec F S1x1x12544 .i32) (x2 : Vec F S96x128 .f32) (xo : Vec F S1x1 .f32) (s6 s7 : Vec F S4x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (setRow s6 n (first6 x0 x1)) ∗ owns (c : Thread nD τ) arg7 fullShare (setRow s7 n (first7 x1))) -∗ K ⟨⟩))
      ⊢ wp frame (wpE (defs₀ (F := F)) Variants.none c none) E (cc0__fused_kernel i arg2 harg2 arg3 harg3 arg4 harg4 arg5 harg5 arg6 harg6 arg7 harg7) K := by
  have ho : k0_off1 i = ![n.val, 0, 0] := by rw [k0_off1_eq, hn]
  simp only [cc0__fused_kernel_eq_skeleton]; unfold cc0__fused_kernel_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf6; obtain rfl := harg7.eq_unread hf7
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (View.read_writes_cons_put _ _ _ _ _ ho).trans ?_
    rw [View.writes_nil, hf6]
    refine congrArg (setRow s6 n) ?_
    sl_unfold_words
    simp only [View.readAt_eq_ld, hf0, hf1]
    rfl
  · iexists _; isplitr
    swap; · iexact H7
    ipureintro
    refine (View.read_writes_cons_put _ _ _ _ _ ho).trans ?_
    rw [View.writes_nil, hf7]
    refine congrArg (setRow s7 n) ?_
    sl_unfold_words
    simp only [View.readAt_eq_ld, hf1]
    rfl

end Cert.KernelIdeal.Hand

end
-- ==== Proof.KernelIdeal.RunB.lean ====
/- The body's run at a later column block of an image: both scratch rows of the image are added to. -/
module

public import proofs.«01_k».proof.Proof.KernelIdeal.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later block of an image: the image's row of each scratch has the block's sums added, the output is left alone. -/
theorem run_next (c : Dev nD) (i : grid0.Coords) (arg2 : Memref sig .tc .vmem S1x96x12544 .f32) (harg2 : arg2.IsWhole) (arg3 : Memref sig .tc .vmem S1x1x12544 .i32) (harg3 : arg3.IsWhole) (arg4 : Memref sig .tc .vmem S96x128 .f32) (harg4 : arg4.IsWhole) (arg5 : Memref sig .tc .vmem S1x1 .f32) (harg5 : arg5.IsWhole) (arg6 : Memref sig .tc .vmem S4x96x128 .f32) (harg6 : arg6.IsWhole) (arg7 : Memref sig .tc .vmem S4x96x128 .f32) (harg7 : arg7.IsWhole)
    (hc1 : ¬k0_cond1 i = 1#1) (hc2 : k0_cond2 i = 1#1) (hc3 : ¬k0_cond3 i = 1#1) (n : Fin 4) (hn : (i 0).val = n.val)
    (x0 : Vec F S1x96x12544 .f32) (x1 : Vec F S1x1x12544 .i32) (x2 : Vec F S96x128 .f32) (xo : Vec F S1x1 .f32) (s6 s7 : Vec F S4x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (setRow s6 n (next6 x0 x1 (row s6 n))) ∗ owns (c : Thread nD τ) arg7 fullShare (setRow s7 n (next7 x1 (row s7 n)))) -∗ K ⟨⟩))
      ⊢ wp frame (wpE (defs₀ (F := F)) Variants.none c none) E (cc0__fused_kernel i arg2 harg2 arg3 harg3 arg4 harg4 arg5 harg5 arg6 harg6 arg7 harg7) K := by
  have ho : k0_off2 i = ![n.val, 0, 0] := by rw [k0_off2_eq, hn]
  have hr6 : arg6.view.readAt (Elt F) (Rect.unit (s := S4x96x128) (k0_off2 i) S1x96x128.size (k0_off2_inb i hc2)).toLoadRect (harg6.unread s6) = row s6 n := by
    rw [View.readAt_unit arg6.view _ _ ho (row_inb n.val n.isLt), harg6.read_unread]; rfl
  have hr7 : arg7.view.readAt (Elt F) (Rect.unit (s := S4x96x128) (k0_off2 i) S1x96x128.size (k0_off2_inb i hc2)).toLoadRect (harg7.unread s7) = row s7 n := by
    rw [View.readAt_unit arg7.view _ _ ho (row_inb n.val n.isLt), harg7.read_unread]; rfl
  simp only [cc0__fused_kernel_eq_skeleton]; unfold cc0__fused_kernel_skel
  simp only [k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf6; obtain rfl := harg7.eq_unread hf7
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (View.read_writes_cons_put _ _ _ _ _ ho).trans ?_
    rw [View.writes_nil, hf6]
    refine congrArg (setRow s6 n) ?_
    sl_unfold_words
    simp only [View.readAt_eq_ld, hf0, hf1]
    rfl
  · iexists _; isplitr
    swap; · iexact H7
    ipureintro
    refine (View.read_writes_cons_put _ _ _ _ _ ho).trans ?_
    rw [View.writes_nil, hf7]
    refine congrArg (setRow s7 n) ?_
    sl_unfold_words
    simp only [View.readAt_eq_ld, hf1]
    rfl

end Cert.KernelIdeal.Hand

end
-- ==== Proof.KernelIdeal.RunC.lean ====
/- The body's run at the last point: the last image's rows are added to, and the output stored from all the rows. -/
module

public import proofs.«01_k».proof.Proof.KernelIdeal.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last point: the last image's row of each scratch has the block's sums added, and the output is stored from the rows. -/
theorem run_last (c : Dev nD) (i : grid0.Coords) (arg2 : Memref sig .tc .vmem S1x96x12544 .f32) (harg2 : arg2.IsWhole) (arg3 : Memref sig .tc .vmem S1x1x12544 .i32) (harg3 : arg3.IsWhole) (arg4 : Memref sig .tc .vmem S96x128 .f32) (harg4 : arg4.IsWhole) (arg5 : Memref sig .tc .vmem S1x1 .f32) (harg5 : arg5.IsWhole) (arg6 : Memref sig .tc .vmem S4x96x128 .f32) (harg6 : arg6.IsWhole) (arg7 : Memref sig .tc .vmem S4x96x128 .f32) (harg7 : arg7.IsWhole)
    (hc1 : ¬k0_cond1 i = 1#1) (hc2 : k0_cond2 i = 1#1) (hc3 : k0_cond3 i = 1#1) (hn : (i 0).val = 3)
    (x0 : Vec F S1x96x12544 .f32) (x1 : Vec F S1x1x12544 .i32) (x2 : Vec F S96x128 .f32) (xo : Vec F S1x1 .f32) (s6 s7 : Vec F S4x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare (fin x2 (row (setRow s6 3 (next6 x0 x1 (row s6 3)))) (row (setRow s7 3 (next7 x1 (row s7 3))))) ∗ owns (c : Thread nD τ) arg6 fullShare (setRow s6 3 (next6 x0 x1 (row s6 3))) ∗ owns (c : Thread nD τ) arg7 fullShare (setRow s7 3 (next7 x1 (row s7 3)))) -∗ K ⟨⟩))
      ⊢ wp frame (wpE (defs₀ (F := F)) Variants.none c none) E (cc0__fused_kernel i arg2 harg2 arg3 harg3 arg4 harg4 arg5 harg5 arg6 harg6 arg7 harg7) K := by
  have ho : k0_off2 i = ![3, 0, 0] := by rw [k0_off2_eq, hn]
  have hr6 : arg6.view.readAt (Elt F) (Rect.unit (s := S4x96x128) (k0_off2 i) S1x96x128.size (k0_off2_inb i hc2)).toLoadRect (harg6.unread s6) = row s6 3 := by
    rw [View.readAt_unit arg6.view _ _ ho (row_inb 3 (by decide)), harg6.read_unread]; rfl
  have hr7 : arg7.view.readAt (Elt F) (Rect.unit (s := S4x96x128) (k0_off2 i) S1x96x128.size (k0_off2_inb i hc2)).toLoadRect (harg7.unread s7) = row s7 3 := by
    rw [View.readAt_unit arg7.view _ _ ho (row_inb 3 (by decide)), harg7.read_unread]; rfl
  have hw6 : ∀ (w : Vec F S1x96x128 .f32) (off : Fin 3 → ℕ) (k : Fin 4) (inb : ∀ a, off a + S1x96x128.size a ≤ S4x96x128.size a), off = ![k.val, 0, 0] →
      arg6.view.readAt (Elt F) (Rect.unit (s := S4x96x128) off S1x96x128.size inb).toLoadRect (arg6.view.writes (Elt F) (harg6.unread s6) [⟨Rect.unit (s := S4x96x128) (k0_off2 i) S1x96x128.size (k0_off2_inb i hc2), w⟩]) = row (setRow s6 3 w) k := by
    intro w off k inb h
    rw [View.readAt_unit arg6.view _ _ h (row_inb k.val k.isLt), View.read_writes_cons_put _ _ _ _ _ ho, View.writes_nil, harg6.read_unread]; rfl
  have hw7 : ∀ (w : Vec F S1x96x128 .f32) (off : Fin 3 → ℕ) (k : Fin 4) (inb : ∀ a, off a + S1x96x128.size a ≤ S4x96x128.size a), off = ![k.val, 0, 0] →
      arg7.view.readAt (Elt F) (Rect.unit (s := S4x96x128) off S1x96x128.size inb).toLoadRect (arg7.view.writes (Elt F) (harg7.unread s7) [⟨Rect.unit (s := S4x96x128) (k0_off2 i) S1x96x128.size (k0_off2_inb i hc2), w⟩]) = row (setRow s7 3 w) k := by
    intro w off k inb h
    rw [View.readAt_unit arg7.view _ _ h (row_inb k.val k.isLt), View.read_writes_cons_put _ _ _ _ _ ho, View.writes_nil, harg7.read_unread]; rfl
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf6; obtain rfl := harg7.eq_unread hf7
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    sl_unfold_run_names
    rw [hw6 _ ![0, 0, 0] 0 _ rfl, hw6 _ ![1, 0, 0] 1 _ rfl, hw6 _ ![2, 0, 0] 2 _ rfl, hw6 _ ![3, 0, 0] 3 _ rfl, hw7 _ ![0, 0, 0] 0 _ rfl, hw7 _ ![1, 0, 0] 1 _ rfl, hw7 _ ![2, 0, 0] 2 _ rfl, hw7 _ ![3, 0, 0] 3 _ rfl]
    simp only [View.readAt_eq_ld, hf0, hf1, hf2]
    rfl
  isplitl [H6]
  · iexists _; isplitr
    swap; · iexact H6
    ipureintro
    refine (View.read_writes_cons_put _ _ _ _ _ ho).trans ?_
    rw [View.writes_nil, hf6]
    refine congrArg (setRow s6 3) ?_
    sl_unfold_words
    simp only [View.readAt_eq_ld, hf0, hf1]
    rfl
  · iexists _; isplitr
    swap; · iexact H7
    ipureintro
    refine (View.read_writes_cons_put _ _ _ _ _ ho).trans ?_
    rw [View.writes_nil, hf7]
    refine congrArg (setRow s7 3) ?_
    sl_unfold_words
    simp only [View.readAt_eq_ld, hf1]
    rfl

end Cert.KernelIdeal.Hand

end
-- ==== Proof.KernelIdeal.Frame.lean ====
/- The proof data of the kernel's one region, its body obligation, the run of `main` and its frame. The region's
   invariant says, before point `n`, what every scratch row stored so far holds: a finished image's row its four blocks'
   sums, the current image's row the sums of the blocks so far; the rows not yet stored hold anything. -/
module

public import proofs.«01_k».proof.Proof.KernelIdeal.RunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch rows hold -/

/-- The blocks of point `n`, by number. -/
abbrev b0 (c : Dev nD) (n : ℕ) (hn : n < cfg0.N) : Vec F S1x96x12544 .f32 := iblk m c 0 ⟨n, hn⟩
abbrev b1 (c : Dev nD) (n : ℕ) (hn : n < cfg0.N) : Vec F S1x1x12544 .i32 := iblk m c 1 ⟨n, hn⟩

/-- What the current image's row of the first scratch holds after point `n`. -/
def acc6 (c : Dev nD) : (n : ℕ) → n < cfg0.N → Vec F S1x96x128 .f32
  | 0, hn => first6 (b0 m c 0 hn) (b1 m c 0 hn)
  | n + 1, hn => if (n + 1) % 4 = 0 then first6 (b0 m c (n + 1) hn) (b1 m c (n + 1) hn)
      else next6 (b0 m c (n + 1) hn) (b1 m c (n + 1) hn) (acc6 c n (Nat.lt_of_succ_lt hn))

/-- What the current image's row of the second scratch holds after point `n`. -/
def acc7 (c : Dev nD) : (n : ℕ) → n < cfg0.N → Vec F S1x96x128 .f32
  | 0, hn => first7 (b1 m c 0 hn)
  | n + 1, hn => if (n + 1) % 4 = 0 then first7 (b1 m c (n + 1) hn)
      else next7 (b1 m c (n + 1) hn) (acc7 c n (Nat.lt_of_succ_lt hn))

theorem acc6_first (c : Dev nD) (n : ℕ) (hn : n < cfg0.N) (h : n % 4 = 0) : acc6 m c n hn = first6 (b0 m c n hn) (b1 m c n hn) := by
  cases n with
  | zero => rfl
  | succ n => exact if_pos h
theorem acc7_first (c : Dev nD) (n : ℕ) (hn : n < cfg0.N) (h : n % 4 = 0) : acc7 m c n hn = first7 (b1 m c n hn) := by
  cases n with
  | zero => rfl
  | succ n => exact if_pos h
theorem acc6_next (c : Dev nD) (n : ℕ) (hn : n + 1 < cfg0.N) (h : ¬(n + 1) % 4 = 0) :
    acc6 m c (n + 1) hn = next6 (b0 m c (n + 1) hn) (b1 m c (n + 1) hn) (acc6 m c n (Nat.lt_of_succ_lt hn)) := if_neg h
theorem acc7_next (c : Dev nD) (n : ℕ) (hn : n + 1 < cfg0.N) (h : ¬(n + 1) % 4 = 0) :
    acc7 m c (n + 1) hn = next7 (b1 m c (n + 1) hn) (acc7 m c n (Nat.lt_of_succ_lt hn)) := if_neg h

/-- Before point `n`: the row of the last block run, and of every image finished, holds that block's running sums. -/
def Held (A : (n : ℕ) → n < cfg0.N → Vec F S1x96x128 .f32) (n : ℕ) (s : Vec F S4x96x128 .f32) : Prop :=
  ∀ (j : ℕ) (hj : j < cfg0.N) (k : Fin 4), j < n → (j % 4 = 3 ∨ j + 1 = n) → k.val = j / 4 → row s k = A j hj

/-- The run of one more point keeps it: the point replaces its image's row by its own running sums. -/
theorem Held.step {A : (n : ℕ) → n < cfg0.N → Vec F S1x96x128 .f32} {n : ℕ} {s : Vec F S4x96x128 .f32} (h : Held A n s)
    (hn : n < cfg0.N) (k : Fin 4) (hk : k.val = n / 4) (w : Vec F S1x96x128 .f32) (hw : w = A n hn) : Held A (n + 1) (setRow s k w) := by
  intro j hj k' hlt hor hk'
  by_cases hjn : j = n
  · subst hjn
    have : k' = k := Fin.ext (by omega)
    subst this
    rw [row_setRow, hw]
  · have hne : k' ≠ k := fun e => by subst e; omega
    rw [row_setRow_ne _ _ _ _ hne]
    exact h j hj k' (by omega) (Or.inl (by omega)) hk'

/-- The row a later block of an image reads: the previous block's running sums. -/
theorem Held.prev {A : (n : ℕ) → n < cfg0.N → Vec F S1x96x128 .f32} {n : ℕ} {s : Vec F S4x96x128 .f32} (h : Held A (n + 1) s)
    (hn : n + 1 < cfg0.N) (k : Fin 4) (hk : k.val = (n + 1) / 4) (h4 : ¬(n + 1) % 4 = 0) : row s k = A n (Nat.lt_of_succ_lt hn) :=
  h n _ k (Nat.lt_succ_self n) (Or.inr rfl) (by omega)

/-- The region's invariant before point `n`. -/
def Phi (c : Dev nD) (n : ℕ) : sProp 𝕄 :=
  iprop(∃ s6, ∃ s7, ⌜Held (acc6 m c) n s6 ∧ Held (acc7 m c) n s7⌝ ∗ owns (c : Thread nD τ) scr6 fullShare s6 ∗ owns (c : Thread nD τ) scr7 fullShare s7 ∗ (∃ r, prngReg c r))

theorem last_lt (k : Fin 4) : 4 * k.val + 3 < cfg0.N := by
  rw [show cfg0.N = 16 from N_0]; have := k.isLt; omega

/-- What the last point stores in the output. -/
def outv (c : Dev nD) : FVec F S1x1 .f32 :=
  fin (iblk m c 2 ⟨15, by rw [show cfg0.N = 16 from N_0]; decide⟩) (fun k => acc6 m c (4 * k.val + 3) (last_lt k)) (fun k => acc7 m c (4 * k.val + 3) (last_lt k))

/-- All four rows after the last point. -/
theorem Held.rows {A : (n : ℕ) → n < cfg0.N → Vec F S1x96x128 .f32} {s : Vec F S4x96x128 .f32} (h : Held A 16 s) :
    row s = fun k => A (4 * k.val + 3) (last_lt k) :=
  funext fun k => h _ _ k (by have := k.isLt; omega) (Or.inl (by omega)) (by omega)

/-! ## The pipeline's proof data -/

/-- The region's arrays as it finds them; each input's buffer at its block after the body, the output's at the last
    point's value (nothing else is written back); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv m c
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outv m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the three runs, by where the point lies in its image. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = Phi m c (t.val + 1) from rfl, show (dats m 0 c).Φ t.castSucc = Phi m c t.val from rfl,
    show (dats m 0 c).leavesExact 0 t = owns (c : Thread nD τ) (ms0 t) fullShare ((dats m 0 c).after 0 t) from by
      unfold Dat.leavesExact; rw [live0 t], after0,
    show (dats m 0 c).leavesExact 1 t = owns (c : Thread nD τ) (ms1 t) fullShare ((dats m 0 c).after 1 t) from by
      unfold Dat.leavesExact; rw [live1 t], after1,
    show (dats m 0 c).leavesExact 2 t = owns (c : Thread nD τ) (ms2 t) fullShare ((dats m 0 c).after 2 t) from by
      unfold Dat.leavesExact; rw [live2 t], after2]
  unfold Phi
  have hN : t.val < 16 := lt_of_lt_of_eq t.isLt (show cfg0.N = 16 from N_0)
  have hc0 := coord0 t
  by_cases h4 : t.val % 4 = 0
  · have hc1 : k0_cond1 (grid0.coords t) = 1#1 := (cond1_iff t).mpr h4
    have hc2 : ¬k0_cond2 (grid0.coords t) = 1#1 := fun h => (cond2_iff t).mp h h4
    have hc3 : ¬k0_cond3 (grid0.coords t) = 1#1 := fun h => by have := (cond3_iff t).mp h; omega
    rw [Dat.leavesExact_idle (dats m 0 c) 3 t (idle3 t hc3) (noFlush3 t hc3)]
    iintro ⟨⟨%s6, %s7, %hs, H6, H7, Hg⟩, Ho, ⟨%d0, H0⟩, ⟨%d1, H1⟩, ⟨%d2, H2⟩, ⟨%d3, H3⟩⟩
    iapply (run_first c (grid0.coords t) _ _ _ _ _ _ _ _ _ _ _ _ hc1 hc2 hc3 ⟨t.val / 4, by omega⟩ hc0 (iblk m c 0 t) (iblk m c 1 t) (iblk m c 2 t) _ s6 s7 Set.univ _)
    isplitl [H0]; · iexact H0
    isplitl [H1]; · iexact H1
    isplitl [H2]; · iexact H2
    isplitl [H3]; · iexact H3
    isplitl [H6]; · iexact H6
    isplitl [H7]; · iexact H7
    iintro ⟨H0, H1, H2, H3, H6, H7⟩
    isplitl [H6 H7 Hg]
    · iexists _; iexists _; isplitr
      swap
      · isplitl [H6]; · iexact H6
        isplitl [H7]; · iexact H7
        iexact Hg
      ipureintro
      exact ⟨hs.1.step t.isLt _ rfl _ (acc6_first m c t.val t.isLt h4).symm, hs.2.step t.isLt _ rfl _ (acc7_first m c t.val t.isLt h4).symm⟩
    isplitl [Ho]; · iexact Ho
    isplitl [H0]; · iexact H0
    isplitl [H1]; · iexact H1
    isplitl [H2]; · iexact H2
    iexists _; iexact H3
  · have hc1 : ¬k0_cond1 (grid0.coords t) = 1#1 := fun h => h4 ((cond1_iff t).mp h)
    have hc2 : k0_cond2 (grid0.coords t) = 1#1 := (cond2_iff t).mpr h4
    have hnext : ∀ s6 s7, Held (acc6 m c) t.val s6 ∧ Held (acc7 m c) t.val s7 →
        ∀ k : Fin 4, k.val = t.val / 4 → Held (acc6 m c) (t.val + 1) (setRow s6 k (next6 (iblk m c 0 t) (iblk m c 1 t) (row s6 k)))
          ∧ Held (acc7 m c) (t.val + 1) (setRow s7 k (next7 (iblk m c 1 t) (row s7 k))) := by
      obtain ⟨n, hn⟩ := t
      intro s6 s7 hs k hk
      cases n with
      | zero => exact absurd (Nat.zero_mod _) h4
      | succ n =>
        rw [hs.1.prev hn k hk h4, hs.2.prev hn k hk h4]
        exact ⟨hs.1.step hn k hk _ (acc6_next m c n hn h4).symm, hs.2.step hn k hk _ (acc7_next m c n hn h4).symm⟩
    by_cases h15 : t.val = 15
    · have hc3 : k0_cond3 (grid0.coords t) = 1#1 := (cond3_iff t).mpr h15
      rw [show (dats m 0 c).leavesExact 3 t = owns (c : Thread nD τ) (ms3 t) fullShare ((dats m 0 c).after 3 t) from by
        unfold Dat.leavesExact; rw [live3 t hc3], after3]
      iintro ⟨⟨%s6, %s7, %hs, H6, H7, Hg⟩, Ho, ⟨%d0, H0⟩, ⟨%d1, H1⟩, ⟨%d2, H2⟩, ⟨%d3, H3⟩⟩
      have hs' := hnext s6 s7 hs 3 (by show (3 : ℕ) = _; omega)
      have hout : fin (iblk m c 2 t) (row (setRow s6 3 (next6 (iblk m c 0 t) (iblk m c 1 t) (row s6 3)))) (row (setRow s7 3 (next7 (iblk m c 1 t) (row s7 3)))) = outv m c := by
        have h1 := hs'.1
        have h2 := hs'.2
        rw [h15] at h1 h2
        rw [h1.rows, h2.rows, show t = ⟨15, by rw [show cfg0.N = 16 from N_0]; decide⟩ from Fin.ext h15]
        rfl
      rw [← hout]
      iapply (run_last c (grid0.coords t) _ _ _ _ _ _ _ _ _ _ _ _ hc1 hc2 hc3 (by rw [hc0, h15]) (iblk m c 0 t) (iblk m c 1 t) (iblk m c 2 t) _ s6 s7 Set.univ _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hg]
      · iexists _; iexists _; isplitr
        swap
        · isplitl [H6]; · iexact H6
          isplitl [H7]; · iexact H7
          iexact Hg
        ipureintro
        exact hs'
      isplitl [Ho]; · iexact Ho
      isplitl [H0]; · iexact H0
      isplitl [H1]; · iexact H1
      isplitl [H2]; · iexact H2
      iexact H3
    · have hc3 : ¬k0_cond3 (grid0.coords t) = 1#1 := fun h => h15 ((cond3_iff t).mp h)
      rw [Dat.leavesExact_idle (dats m 0 c) 3 t (idle3 t hc3) (noFlush3 t hc3)]
      iintro ⟨⟨%s6, %s7, %hs, H6, H7, Hg⟩, Ho, ⟨%d0, H0⟩, ⟨%d1, H1⟩, ⟨%d2, H2⟩, ⟨%d3, H3⟩⟩
      iapply (run_next c (grid0.coords t) _ _ _ _ _ _ _ _ _ _ _ _ hc1 hc2 hc3 ⟨t.val / 4, by omega⟩ hc0 (iblk m c 0 t) (iblk m c 1 t) (iblk m c 2 t) _ s6 s7 Set.univ _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hg]
      · iexists _; iexists _; isplitr
        swap
        · isplitl [H6]; · iexact H6
          isplitl [H7]; · iexact H7
          iexact Hg
        ipureintro
        exact hnext s6 s7 hs _ rfl
      isplitl [Ho]; · iexact Ho
      isplitl [H0]; · iexact H0
      isplitl [H1]; · iexact H1
      isplitl [H2]; · iexact H2
      iexists _; iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing is asked of any row. -/
theorem hin (c : Dev nD) : Pipeline.ΦA spec0 c ⊢ (dats m 0 c).Φ 0 := by
  rw [show (dats m 0 c).Φ 0 = Phi m c 0 from rfl, PhiA_eq]
  unfold Phi
  iintro ⟨⟨⟨%s6, H6⟩, ⟨%s7, H7⟩⟩, Hg⟩
  iexists s6; iexists s7; isplitr
  · ipureintro
    exact ⟨fun j hj k h => absurd h (Nat.not_lt_zero j), fun j hj k h => absurd h (Nat.not_lt_zero j)⟩
  isplitl [H6]; · iexact H6
  isplitl [H7]; · iexact H7
  iexact Hg

/-- After the last point the invariant gives the scratches back at some contents. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%s6, %s7, -, H6, H7, Hg⟩
  isplitl [H6 H7]
  · isplitl [H6]
    · iexists _; iexact H6
    iexists _; iexact H7
  iexact Hg

/-! ## The run and the frame -/

set_option backward.isDefEq.respectTransparency.types false in
set_option maxHeartbeats 800000 in
/-- The launch: every array of the pipeline ends at what the proof data give, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.Slices.lean ====
/- The lane sums of one grid point: the running sums over the slices of the two column chunks, read at one class and
   one lane. -/
module

public import proofs.«01_k».proof.Proof.KernelIdeal.Runs
public import Idealize.ShloMosaic.Lib.Pointwise

@[expose] public section

set_option maxRecDepth 16384

noncomputable section

namespace Cert.KernelIdeal.Hand

open Cert.KernelIdeal.Gen
open Idealize.ShloMosaic

/-- Class `c` of a chunk at column `o + j`, zero beyond the chunk. -/
def lane (v : FVec Ideal S96x6272 .f32) (c : Fin 96) (j : Fin 128) (o : ℕ) : EReal :=
  if h : o + j.val < 6272 then v (ix2 c ⟨o + j.val, h⟩) else 0

theorem slice_lane (v : FVec Ideal S96x6272 .f32) (o : ℕ) (h : S96x6272.Slices ![0, o] S96x128) (c : Fin 96) (j : Fin 128) :
    extractStridedSlice S96x128 ![0, o] v h (ix2 c j) = lane v c j o := by
  have hb : o + j.val < 6272 := by
    have := h.2 1
    have := j.isLt
    simp at *
    omega
  unfold lane
  rw [dif_pos hb]
  pointwise

/-- A running sum over a chunk's first `n` slices, from the start `b`. -/
def upTo (v : FVec Ideal S96x6272 .f32) (c : Fin 96) (j : Fin 128) (b : EReal) (n : ℕ) : EReal :=
  b + ∑ i ∈ Finset.range n, lane v c j (128 * i)

theorem zero_at (s : Shape) (k : s.Idx) : broadcast s (FloatOps.ofBits (F := Ideal) FTy.f32 0#32) k = (0 : EReal) :=
  Ideal.ofBits_zero_f32

theorem pay10_upTo (y : IVec S1x1x6272 32) (c : Fin 96) (j : Fin 128) :
    k0_pay10 (F := Ideal) y (ix2 c j) = upTo (k0_pay9 y) c j 0 4 := by
  unfold k0_pay10
  simp only [addf_apply, Ideal.addf_def, slice_lane, zero_at, upTo, Finset.sum_range_succ, Finset.sum_range_zero, ← add_assoc, add_zero, Nat.reduceMul]

theorem pay11_upTo (x : FVec Ideal S1x96x6272 .f32) (y : IVec S1x1x6272 32) (c : Fin 96) (j : Fin 128) :
    k0_pay11 (F := Ideal) x y (ix2 c j) = upTo (k0_pay8 x y) c j 0 5 := by
  unfold k0_pay11
  simp only [addf_apply, Ideal.addf_def, slice_lane, zero_at, upTo, Finset.sum_range_succ, Finset.sum_range_zero, ← add_assoc, add_zero, Nat.reduceMul]

theorem pay12_at (y : IVec S1x1x6272 32) (c : Fin 96) (j : Fin 128) :
    k0_pay12 (F := Ideal) y (ix2 c j) = lane (k0_pay9 y) c j 512 := by
  unfold k0_pay12; rw [slice_lane]

theorem pay15_at (v : FVec Ideal S96x6272 .f32) (c : Fin 96) (j : Fin 128) :
    k0_pay15 (F := Ideal) v (ix2 c j) = lane v c j 2432 := by
  unfold k0_pay15; rw [slice_lane]

theorem pay18_at (v : FVec Ideal S96x6272 .f32) (c : Fin 96) (j : Fin 128) :
    k0_pay18 (F := Ideal) v (ix2 c j) = lane v c j 4352 := by
  unfold k0_pay18; rw [slice_lane]

theorem pay13_upTo (v : FVec Ideal S96x6272 .f32) (p q : FVec Ideal S96x128 .f32) (c : Fin 96) (j : Fin 128) (b : EReal) (hp : p (ix2 c j) = upTo v c j b 4) (hq : q (ix2 c j) = lane v c j 512) :
    k0_pay13 (F := Ideal) v p q (ix2 c j) = upTo v c j b 19 := by
  unfold k0_pay13
  simp only [addf_apply, Ideal.addf_def, slice_lane, hp, hq, upTo, Finset.sum_range_succ, Finset.sum_range_zero, ← add_assoc, add_zero, Nat.reduceMul]

theorem pay16_upTo (v : FVec Ideal S96x6272 .f32) (p q : FVec Ideal S96x128 .f32) (c : Fin 96) (j : Fin 128) (b : EReal) (hp : p (ix2 c j) = upTo v c j b 19) (hq : q (ix2 c j) = lane v c j 2432) :
    k0_pay16 (F := Ideal) v p q (ix2 c j) = upTo v c j b 34 := by
  unfold k0_pay16
  simp only [addf_apply, Ideal.addf_def, slice_lane, hp, hq, upTo, Finset.sum_range_succ, Finset.sum_range_zero, ← add_assoc, add_zero, Nat.reduceMul]

theorem pay20_upTo (v : FVec Ideal S96x6272 .f32) (p q : FVec Ideal S96x128 .f32) (c : Fin 96) (j : Fin 128) (b : EReal) (hp : p (ix2 c j) = upTo v c j b 34) (hq : q (ix2 c j) = lane v c j 4352) :
    k0_pay20 (F := Ideal) v p q (ix2 c j) = upTo v c j b 49 := by
  unfold k0_pay20
  simp only [addf_apply, Ideal.addf_def, slice_lane, hp, hq, upTo, Finset.sum_range_succ, Finset.sum_range_zero, ← add_assoc, add_zero, Nat.reduceMul]

theorem pay14_upTo (v : FVec Ideal S96x6272 .f32) (p : FVec Ideal S96x128 .f32) (c : Fin 96) (j : Fin 128) (b : EReal) (hp : p (ix2 c j) = upTo v c j b 5) :
    k0_pay14 (F := Ideal) v p (ix2 c j) = upTo v c j b 20 := by
  unfold k0_pay14
  simp only [addf_apply, Ideal.addf_def, slice_lane, hp, upTo, Finset.sum_range_succ, Finset.sum_range_zero, ← add_assoc, add_zero, Nat.reduceMul]

theorem pay17_upTo (v : FVec Ideal S96x6272 .f32) (p : FVec Ideal S96x128 .f32) (c : Fin 96) (j : Fin 128) (b : EReal) (hp : p (ix2 c j) = upTo v c j b 20) :
    k0_pay17 (F := Ideal) v p (ix2 c j) = upTo v c j b 35 := by
  unfold k0_pay17
  simp only [addf_apply, Ideal.addf_def, slice_lane, hp, upTo, Finset.sum_range_succ, Finset.sum_range_zero, ← add_assoc, add_zero, Nat.reduceMul]

theorem pay19_upTo (v : FVec Ideal S96x6272 .f32) (p : FVec Ideal S96x128 .f32) (c : Fin 96) (j : Fin 128) (b : EReal) (hp : p (ix2 c j) = upTo v c j b 35) :
    k0_pay19 (F := Ideal) v p (ix2 c j) = upTo v c j b 49 := by
  unfold k0_pay19
  simp only [addf_apply, Ideal.addf_def, slice_lane, hp, upTo, Finset.sum_range_succ, Finset.sum_range_zero, ← add_assoc, add_zero, Nat.reduceMul]

theorem pay26_upTo (v : FVec Ideal S96x6272 .f32) (p : FVec Ideal S96x128 .f32) (c : Fin 96) (j : Fin 128) (b : EReal) (hp : p (ix2 c j) = upTo v c j b 7) :
    k0_pay26 (F := Ideal) v p (ix2 c j) = upTo v c j b 22 := by
  unfold k0_pay26
  simp only [addf_apply, Ideal.addf_def, slice_lane, hp, upTo, Finset.sum_range_succ, Finset.sum_range_zero, ← add_assoc, add_zero, Nat.reduceMul]

theorem pay27_upTo (v : FVec Ideal S96x6272 .f32) (p : FVec Ideal S96x128 .f32) (c : Fin 96) (j : Fin 128) (b : EReal) (hp : p (ix2 c j) = upTo v c j b 7) :
    k0_pay27 (F := Ideal) v p (ix2 c j) = upTo v c j b 22 := by
  unfold k0_pay27
  simp only [addf_apply, Ideal.addf_def, slice_lane, hp, upTo, Finset.sum_range_succ, Finset.sum_range_zero, ← add_assoc, add_zero, Nat.reduceMul]

theorem pay28_upTo (v : FVec Ideal S96x6272 .f32) (p : FVec Ideal S96x128 .f32) (c : Fin 96) (j : Fin 128) (b : EReal) (hp : p (ix2 c j) = upTo v c j b 22) :
    k0_pay28 (F := Ideal) v p (ix2 c j) = upTo v c j b 37 := by
  unfold k0_pay28
  simp only [addf_apply, Ideal.addf_def, slice_lane, hp, upTo, Finset.sum_range_succ, Finset.sum_range_zero, ← add_assoc, add_zero, Nat.reduceMul]

theorem pay29_upTo (v : FVec Ideal S96x6272 .f32) (p : FVec Ideal S96x128 .f32) (c : Fin 96) (j : Fin 128) (b : EReal) (hp : p (ix2 c j) = upTo v c j b 22) :
    k0_pay29 (F := Ideal) v p (ix2 c j) = upTo v c j b 37 := by
  unfold k0_pay29
  simp only [addf_apply, Ideal.addf_def, slice_lane, hp, upTo, Finset.sum_range_succ, Finset.sum_range_zero, ← add_assoc, add_zero, Nat.reduceMul]

theorem pay30_upTo (v : FVec Ideal S96x6272 .f32) (p : FVec Ideal S96x128 .f32) (c : Fin 96) (j : Fin 128) (b : EReal) (hp : p (ix2 c j) = upTo v c j b 37) :
    k0_pay30 (F := Ideal) v p (ix2 c j) = upTo v c j b 49 := by
  unfold k0_pay30
  simp only [addf_apply, Ideal.addf_def, slice_lane, hp, upTo, Finset.sum_range_succ, Finset.sum_range_zero, ← add_assoc, add_zero, Nat.reduceMul]

theorem pay31_upTo (v : FVec Ideal S96x6272 .f32) (p : FVec Ideal S96x128 .f32) (c : Fin 96) (j : Fin 128) (b : EReal) (hp : p (ix2 c j) = upTo v c j b 37) :
    k0_pay31 (F := Ideal) v p (ix2 c j) = upTo v c j b 49 := by
  unfold k0_pay31
  simp only [addf_apply, Ideal.addf_def, slice_lane, hp, upTo, Finset.sum_range_succ, Finset.sum_range_zero, ← add_assoc, add_zero, Nat.reduceMul]

theorem pay24_upTo (p : FVec Ideal S96x128 .f32) (x : FVec Ideal S1x96x6272 .f32) (y : IVec S1x1x6272 32) (c : Fin 96) (j : Fin 128) :
    k0_pay24 (F := Ideal) p x y (ix2 c j) = upTo (k0_pay22 x y) c j (p (ix2 c j)) 7 := by
  unfold k0_pay24
  simp only [addf_apply, Ideal.addf_def, slice_lane, upTo, Finset.sum_range_succ, Finset.sum_range_zero, ← add_assoc, add_zero, Nat.reduceMul]

theorem pay25_upTo (p : FVec Ideal S96x128 .f32) (y : IVec S1x1x6272 32) (c : Fin 96) (j : Fin 128) :
    k0_pay25 (F := Ideal) p y (ix2 c j) = upTo (k0_pay23 y) c j (p (ix2 c j)) 7 := by
  unfold k0_pay25
  simp only [addf_apply, Ideal.addf_def, slice_lane, upTo, Finset.sum_range_succ, Finset.sum_range_zero, ← add_assoc, add_zero, Nat.reduceMul]

/-! ## One point's lane sums -/

variable (x0 : FVec Ideal S1x96x12544 .f32) (x1 : IVec S1x1x12544 32) (c : Fin 96) (j : Fin 128)

/-- The lane sum of the masked probabilities over both chunks, and that of the masks. -/
def sum6 : EReal := upTo (k0_pay22 (xb x0) (yb x1)) c j (upTo (k0_pay8 (xa x0) (ya x1)) c j 0 49) 49
def sum7 : EReal := upTo (k0_pay23 (F := Ideal) (yb x1)) c j (upTo (k0_pay9 (F := Ideal) (ya x1)) c j 0 49) 49

theorem pay30_sum6 : k0_pay30 (F := Ideal) (k0_pay22 (xb x0) (yb x1)) (tp6 x0 x1) (ix2 c j) = sum6 x0 x1 c j :=
  pay30_upTo _ _ c j _ (pay28_upTo _ _ c j _ (pay26_upTo _ _ c j _ ((pay24_upTo _ _ _ c j).trans
    (congrArg (fun b => upTo (k0_pay22 (xb x0) (yb x1)) c j b 7)
      (pay19_upTo _ _ c j 0 (pay17_upTo _ _ c j 0 (pay14_upTo _ _ c j 0 (pay11_upTo _ _ c j))))))))

theorem pay31_sum7 : k0_pay31 (k0_pay23 (F := Ideal) (yb x1)) (tt6 x1) (ix2 c j) = sum7 x1 c j :=
  pay31_upTo _ _ c j _ (pay29_upTo _ _ c j _ (pay27_upTo _ _ c j _ ((pay25_upTo _ _ c j).trans
    (congrArg (fun b => upTo (k0_pay23 (F := Ideal) (yb x1)) c j b 7)
      (pay20_upTo _ _ _ c j 0 (pay16_upTo _ _ _ c j 0 (pay13_upTo _ _ _ c j 0 (pay10_upTo _ c j) (pay12_at _ c j)) (pay15_at _ c j))
        (pay18_at _ c j))))))

theorem first6_at : first6 (F := Ideal) x0 x1 (ix3 0 c j) = sum6 x0 x1 c j := by
  unfold first6 k0_pay32; pointwise; exact pay30_sum6 x0 x1 c j
theorem first7_at : first7 (F := Ideal) x1 (ix3 0 c j) = sum7 x1 c j := by
  unfold first7 k0_pay33; pointwise; exact pay31_sum7 x1 c j
theorem next6_at (p : FVec Ideal S1x96x128 .f32) : next6 (F := Ideal) x0 x1 p (ix3 0 c j) = p (ix3 0 c j) + sum6 x0 x1 c j := by
  unfold next6 k0_pay34; pointwise; exact congrArg (p (ix3 0 c j) + ·) (pay30_sum6 x0 x1 c j)
theorem next7_at (p : FVec Ideal S1x96x128 .f32) : next7 (F := Ideal) x1 p (ix3 0 c j) = p (ix3 0 c j) + sum7 x1 c j := by
  unfold next7 k0_pay35; pointwise; exact congrArg (p (ix3 0 c j) + ·) (pay31_sum7 x1 c j)

end Cert.KernelIdeal.Hand

end
-- ==== Proof.Value.Formula.lean ====
/- The function both programs compute, over the extended reals: the arrays read by image, class and pixel, the
   probability mass and the pixel count of each image's classes, and the loss. -/
module

public import Idealize.ShloMosaic.Lib.Pointwise

@[expose] public section

noncomputable section

namespace Cert.Value

open Idealize.ShloMosaic

/-- The probability the kernel gives to class `c` of a pixel with logits `x` and label `y`: the label's own probability
    at the label's class, zero at the others. -/
def prob (x : Fin 96 → EReal) (y : BitVec 32) (c : Fin 96) : EReal :=
  if BitVec.ofNat 32 c.val = y then
    Ideal.div (Ideal.exp (∑ k : Fin 96, if BitVec.ofNat 32 k.val = y then x k else 0)) (∑ k : Fin 96, Ideal.exp (x k))
  else 0

/-- Whether the label is class `c`, as a number. -/
def mask (y : BitVec 32) (c : Fin 96) : EReal := if BitVec.ofNat 32 c.val = y then 1 else 0

theorem select_cmpi_eq {α : Type} (a b : BitVec 32) (u v : α) :
    Scalar.select (IntOp.cmpi .eq a b) u v = if a = b then u else v := by
  by_cases h : a = b
  · subst h; simp [Scalar.select, IntOp.cmpi]
  · rw [if_neg h]
    unfold Scalar.select IntOp.cmpi
    simp [beq_eq_false_iff_ne.2 h]

/-- A sum over `a * b` positions, by the `b` positions inside each of `a` groups. -/
theorem sum_groups {a b n : ℕ} (hn : a * b = n) (f : Fin n → EReal) :
    ∑ q, f q = ∑ i : Fin a, ∑ j : Fin b, f ⟨b * i.val + j.val, by
      have := i.isLt; have := j.isLt
      calc b * i.val + j.val < b * i.val + b := by omega
        _ = b * (i.val + 1) := by ring
        _ ≤ b * a := Nat.mul_le_mul_left _ (by omega)
        _ = n := by rw [Nat.mul_comm]; exact hn⟩ := by
  subst hn
  rw [← finProdFinEquiv.sum_comp, Fintype.sum_prod_type]
  refine Finset.sum_congr rfl fun i _ => Finset.sum_congr rfl fun j _ => congrArg f (Fin.ext ?_)
  show j.val + b * i.val = _
  exact Nat.add_comm _ _

/-- The logit of class `k` at pixel `p` of image `n`, pixels counted row by row. -/
def logit (X : FVec Ideal ⟨4, ![4, 96, 224, 224]⟩ .f32) (n : Fin 4) (p : Fin 50176) (k : Fin 96) : EReal :=
  X (ix4 n k ⟨p.val / 224, by have := p.isLt; omega⟩ ⟨p.val % 224, Nat.mod_lt _ (by decide)⟩)

/-- The label at pixel `p` of image `n`. -/
def label (Y : IVec ⟨3, ![4, 224, 224]⟩ 32) (n : Fin 4) (p : Fin 50176) : BitVec 32 :=
  Y (ix3 n ⟨p.val / 224, by have := p.isLt; omega⟩ ⟨p.val % 224, Nat.mod_lt _ (by decide)⟩)

/-- The printed constants: the smoothing term, the number of classes, the number of recalls. -/
def smooth : EReal := Ideal.ofBits .f32 0x3727C5AC#32
def classes : EReal := Ideal.ofBits .f32 0x42C00000#32
def recalls : EReal := Ideal.ofBits .f32 0x43C00000#32

/-- The label's probability summed over the pixels of image `n` whose label is class `c`, and the number of those pixels. -/
def mass (X : FVec Ideal ⟨4, ![4, 96, 224, 224]⟩ .f32) (Y : IVec ⟨3, ![4, 224, 224]⟩ 32) (n : Fin 4) (c : Fin 96) : EReal :=
  ∑ p : Fin 50176, prob (logit X n p) (label Y n p) c
def count (Y : IVec ⟨3, ![4, 224, 224]⟩ 32) (n : Fin 4) (c : Fin 96) : EReal := ∑ p : Fin 50176, mask (label Y n p) c

/-- The share of class `c` in the loss, from its recall's two parts and the weights. -/
def term (tp tt : EReal) (w : Fin 96 → EReal) (c : Fin 96) : EReal :=
  (1 - Ideal.div (tp + smooth) (tt + smooth)) * (Ideal.div (w c) (∑ k : Fin 96, w k) * classes)

/-- The loss. -/
def loss (X : FVec Ideal ⟨4, ![4, 96, 224, 224]⟩ .f32) (Y : IVec ⟨3, ![4, 224, 224]⟩ 32) (W : FVec Ideal ⟨1, ![96]⟩ .f32) : EReal :=
  Ideal.div (∑ n : Fin 4, ∑ c : Fin 96, term (mass X Y n c) (count Y n c) (fun k => W (ix1 k)) c) recalls

end Cert.Value

end
-- ==== Proof.Value.Block.lean ====
/- One grid point's lane sums in terms of its blocks: which probabilities and masks the lanes add up. -/
module

public import proofs.«01_k».proof.Proof.Value.Slices
public import proofs.«01_k».proof.Proof.Value.Formula

@[expose] public section

set_option maxRecDepth 16384

noncomputable section

namespace Cert.KernelIdeal.Hand

open Cert.KernelIdeal.Gen Cert.Value
open Idealize.ShloMosaic

theorem pay8_at (x : FVec Ideal S1x96x6272 .f32) (y : IVec S1x1x6272 32) (c : Fin 96) (q : Fin 6272) :
    k0_pay8 (F := Ideal) x y (ix2 c q) = prob (fun k => x (ix3 0 k q)) (y (ix3 0 0 q)) c := by
  unfold prob
  pointwise [k0_pay8, k0_pay7]
  simp only [select_cmpi_eq]

theorem pay9_at (y : IVec S1x1x6272 32) (c : Fin 96) (q : Fin 6272) :
    k0_pay9 (F := Ideal) y (ix2 c q) = mask (y (ix3 0 0 q)) c := by
  unfold mask
  pointwise [k0_pay9, k0_pay7]
  simp only [select_cmpi_eq]

/-- The second chunk's payloads are the first's. -/
theorem pay22_eq : k0_pay22 (F := Ideal) = k0_pay8 := rfl
theorem pay23_eq : k0_pay23 (F := Ideal) = k0_pay9 := rfl

/-- The lanes' slices make up the whole chunk. -/
theorem sum_lanes (v : FVec Ideal S96x6272 .f32) (c : Fin 96) :
    ∑ j : Fin 128, ∑ i ∈ Finset.range 49, lane v c j (128 * i) = ∑ q : Fin 6272, (v (ix2 c q) : EReal) := by
  rw [sum_groups (a := 49) (b := 128) rfl, Finset.sum_comm, Finset.sum_range]
  refine Finset.sum_congr rfl fun i _ => Finset.sum_congr rfl fun j _ => ?_
  have := i.isLt; have := j.isLt
  unfold lane
  rw [dif_pos (by omega)]

theorem sum_upTo (v w : FVec Ideal S96x6272 .f32) (c : Fin 96) :
    ∑ j : Fin 128, upTo w c j (upTo v c j 0 49) 49 = ∑ q : Fin 6272, (v (ix2 c q) : EReal) + ∑ q : Fin 6272, (w (ix2 c q) : EReal) := by
  simp only [upTo, zero_add, Finset.sum_add_distrib, sum_lanes]

variable (x0 : FVec Ideal S1x96x12544 .f32) (x1 : IVec S1x1x12544 32) (c : Fin 96)

theorem xa_at (k : Fin 96) (q : Fin 6272) : xa (F := Ideal) x0 (ix3 0 k q) = x0 (ix3 0 k (Fin.castAdd 6272 q)) := by
  pointwise [xa]; rfl
theorem xb_at (k : Fin 96) (q : Fin 6272) : xb (F := Ideal) x0 (ix3 0 k q) = x0 (ix3 0 k (Fin.natAdd 6272 q)) := by
  pointwise [xb]; rfl
theorem ya_at (q : Fin 6272) : ya (F := Ideal) x1 (ix3 0 0 q) = x1 (ix3 0 0 (Fin.castAdd 6272 q)) := by
  pointwise [ya]; rfl
theorem yb_at (q : Fin 6272) : yb (F := Ideal) x1 (ix3 0 0 q) = x1 (ix3 0 0 (Fin.natAdd 6272 q)) := by
  pointwise [yb]; rfl

/-- The lane sums of a point add up to the sums over its pixels. -/
theorem sum_sum6 : ∑ j : Fin 128, sum6 x0 x1 c j = ∑ q : Fin 12544, prob (fun k => x0 (ix3 0 k q)) (x1 (ix3 0 0 q)) c := by
  unfold sum6
  rw [sum_upTo, pay22_eq]
  simp only [pay8_at, xa_at, xb_at, ya_at, yb_at]
  exact (Fin.sum_univ_add (a := 6272) (b := 6272) fun q => prob (fun k => x0 (ix3 0 k q)) (x1 (ix3 0 0 q)) c).symm

theorem sum_sum7 : ∑ j : Fin 128, sum7 x1 c j = ∑ q : Fin 12544, mask (x1 (ix3 0 0 q)) c := by
  unfold sum7
  rw [sum_upTo, pay23_eq]
  simp only [pay9_at, ya_at, yb_at]
  exact (Fin.sum_univ_add (a := 6272) (b := 6272) fun q => mask (x1 (ix3 0 0 q)) c).symm

end Cert.KernelIdeal.Hand

end
-- ==== Proof.Value.Reads.lean ====
/- The blocks of a grid point, read back to the arguments. -/
module

public import proofs.«01_k».proof.Proof.KernelIdeal.Frame
public import proofs.«01_k».proof.Proof.Value.Block
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Hand

open Cert.KernelIdeal Cert.KernelIdeal.Gen Cert.Value
open Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![t.val / 4, 0, t.val % 4] ∧ win0_1.index t = ![t.val / 4, 0, t.val % 4]
    ∧ win0_2.index t = ![0, 0] ∧ win0_3.index t = ![0, 0] ∧ t.val < 16 :=
  (by decide +kernel : ∀ t : Fin grid0.N, _)

/-- The arguments' contents. -/
abbrev argX (c : Dev nD) : FVec Ideal S4x96x224x224 .f32 := m ((c.tc : Thread nD τ).loc main_arg0)
abbrev argY (c : Dev nD) : IVec S4x224x224 32 := m ((c.tc : Thread nD τ).loc main_arg1)
abbrev argW (c : Dev nD) : FVec Ideal S96 .f32 := m ((c.tc : Thread nD τ).loc main_arg2)

/-! ## The arrays the region finds -/

theorem V_v0 (c : Dev nD) : V m c main_v0 = shapeCast S4x96x50176 (argX m c) shapeCasts_S4x96x224x224_S4x96x50176 := by
  simp only [V, V0, hostOps0, List.flatten_cons, List.flatten_nil, List.append_nil]
  after_results_simp
  rfl

theorem V_v1 (c : Dev nD) : V m c main_v1 = shapeCast S4x1x50176 (argY m c) shapeCasts_S4x224x224_S4x1x50176 := by
  simp only [V, V0, hostOps0, List.flatten_cons, List.flatten_nil, List.append_nil]
  after_results_simp
  rfl

theorem V_v3 (c : Dev nD) : V m c main_v3
    = broadcastInDim S96x128 ![0, 1] bcast_S96x1_S96x128_0_1 (shapeCast S96x1 (argW m c) shapeCasts_S96_S96x1) := by
  simp only [V, V0, hostOps0, List.flatten_cons, List.flatten_nil, List.append_nil]
  after_results_simp
  rfl

/-! ## The blocks of a point -/

/-- The pixel of its image that column `q` of block `l` is. -/
def pix (l : Fin 4) (q : Fin 12544) : Fin 50176 := ⟨12544 * l.val + q.val, by have := l.isLt; have := q.isLt; omega⟩

theorem point_lt (n l : Fin 4) : 4 * n.val + l.val < cfg0.N := by
  rw [show cfg0.N = 16 from N_0]; have := n.isLt; have := l.isLt; omega

theorem b0_at (c : Dev nD) (n l : Fin 4) (k : Fin 96) (q : Fin 12544) :
    (b0 m c (4 * n.val + l.val) (point_lt n l) : FVec Ideal S1x96x12544 .f32) (ix3 0 k q) = logit (argX m c) n (pix l q) k := by
  have hn := n.isLt; have hl := l.isLt; have hq := q.isLt
  have e1 : (4 * n.val + l.val) / 4 = n.val := by omega
  have e2 : (4 * n.val + l.val) % 4 = l.val := by omega
  have hi : ((win0_0.blk ⟨4 * n.val + l.val, point_lt n l⟩).view.emb (ix3 0 k q)) = ix3 n k (pix l q) := by
    blk_ext [idx_val ⟨4 * n.val + l.val, point_lt n l⟩, pix, e1, e2]
  show V m c main_v0 ((win0_0.blk ⟨4 * n.val + l.val, point_lt n l⟩).view.emb (ix3 0 k q)) = _
  rw [hi, V_v0]
  unfold logit
  pointwise

theorem b1_at (c : Dev nD) (n l : Fin 4) (q : Fin 12544) :
    (b1 m c (4 * n.val + l.val) (point_lt n l) : IVec S1x1x12544 32) (ix3 0 0 q) = label (argY m c) n (pix l q) := by
  have hn := n.isLt; have hl := l.isLt; have hq := q.isLt
  have e1 : (4 * n.val + l.val) / 4 = n.val := by omega
  have e2 : (4 * n.val + l.val) % 4 = l.val := by omega
  have hi : ((win0_1.blk ⟨4 * n.val + l.val, point_lt n l⟩).view.emb (ix3 0 0 q)) = ix3 n 0 (pix l q) := by
    blk_ext [idx_val ⟨4 * n.val + l.val, point_lt n l⟩, pix, e1, e2]
  show V m c main_v1 ((win0_1.blk ⟨4 * n.val + l.val, point_lt n l⟩).view.emb (ix3 0 0 q)) = _
  rw [hi, V_v1]
  unfold label
  pointwise

theorem b2_at (c : Dev nD) (t : Fin cfg0.N) (k : Fin 96) (j : Fin 128) :
    (iblk m c 2 t : FVec Ideal S96x128 .f32) (ix2 k j) = argW m c (ix1 k) := by
  have hi : ((win0_2.blk t).view.emb (ix2 k j)) = ix2 k j := by
    blk_ext [idx_val t]
  show V m c main_v3 ((win0_2.blk t).view.emb (ix2 k j)) = _
  rw [hi, V_v3]
  pointwise

end Cert.KernelIdeal.Hand

end
-- ==== Proof.Value.Kernel.lean ====
/- The kernel's result: what the region leaves in the output array is the loss of the arguments. -/
module

public import proofs.«01_k».proof.Proof.Value.Reads

@[expose] public section

set_option maxRecDepth 16384

noncomputable section

namespace Cert.KernelIdeal.Hand

open Cert.KernelIdeal Cert.KernelIdeal.Gen Cert.Value
open Idealize.ShloMosaic Idealize.ShloMosaic.TcCoe Idealize.SL.Sem
open Idealize.ShloMosaic.Pipeline (Dat)

variable (m : (ℓ : Loc nD τ sig) → Buf (Elt Ideal) ℓ)

/-- A finished image's row, at one class and lane: the sum of its four blocks' lane sums. -/
theorem acc6_last (d : Dev nD) (n : Fin 4) (c : Fin 96) (j : Fin 128) :
    (acc6 m d (4 * n.val + 3) (last_lt n) : FVec Ideal S1x96x128 .f32) (ix3 0 c j)
      = ∑ l : Fin 4, sum6 (b0 m d (4 * n.val + l.val) (point_lt n l)) (b1 m d (4 * n.val + l.val) (point_lt n l)) c j := by
  rw [Fin.sum_univ_four, acc6_next m d (4 * n.val + 2) _ (by omega), next6_at, acc6_next m d (4 * n.val + 1) _ (by omega), next6_at,
    acc6_next m d (4 * n.val + 0) _ (by omega), next6_at, acc6_first m d (4 * n.val + 0) _ (by omega), first6_at]
  rfl

theorem acc7_last (d : Dev nD) (n : Fin 4) (c : Fin 96) (j : Fin 128) :
    (acc7 m d (4 * n.val + 3) (last_lt n) : FVec Ideal S1x96x128 .f32) (ix3 0 c j)
      = ∑ l : Fin 4, sum7 (b1 m d (4 * n.val + l.val) (point_lt n l)) c j := by
  rw [Fin.sum_univ_four, acc7_next m d (4 * n.val + 2) _ (by omega), next7_at, acc7_next m d (4 * n.val + 1) _ (by omega), next7_at,
    acc7_next m d (4 * n.val + 0) _ (by omega), next7_at, acc7_first m d (4 * n.val + 0) _ (by omega), first7_at]
  rfl

/-- The lanes of a finished image's row add up to the class's mass and to its count. -/
theorem sum_acc6 (d : Dev nD) (n : Fin 4) (c : Fin 96) :
    ∑ j : Fin 128, (acc6 m d (4 * n.val + 3) (last_lt n) : FVec Ideal S1x96x128 .f32) (ix3 0 c j) = mass (argX m d) (argY m d) n c := by
  simp only [acc6_last]
  rw [Finset.sum_comm]
  unfold mass
  rw [sum_groups (a := 4) (b := 12544) rfl]
  refine Finset.sum_congr rfl fun l _ => ?_
  rw [sum_sum6]
  simp only [b0_at, b1_at]
  rfl

theorem sum_acc7 (d : Dev nD) (n : Fin 4) (c : Fin 96) :
    ∑ j : Fin 128, (acc7 m d (4 * n.val + 3) (last_lt n) : FVec Ideal S1x96x128 .f32) (ix3 0 c j) = Cert.Value.count (argY m d) n c := by
  simp only [acc7_last]
  rw [Finset.sum_comm]
  unfold Cert.Value.count
  rw [sum_groups (a := 4) (b := 12544) rfl]
  refine Finset.sum_congr rfl fun l _ => ?_
  rw [sum_sum7]
  simp only [b1_at]
  rfl

/-- Sums over a unit axis drop out of the four images' totals. -/
theorem div_units (f : Fin 4 → Fin 96 → EReal) :
    Ideal.div ((∑ c, ∑ _u : Fin 1, f 0 c) + (∑ c, ∑ _u : Fin 1, f 1 c) + (∑ c, ∑ _u : Fin 1, f 2 c) + (∑ c, ∑ _u : Fin 1, f 3 c)) recalls
      = Ideal.div (∑ n, ∑ c, f n c) recalls := by
  rw [Fin.sum_univ_four]
  simp only [Fin.sum_univ_one]

/-- … and out of the weights' total. -/
theorem unit_sum (f : Fin 96 → EReal) : ∑ k, ∑ _u : Fin 1, f k = ∑ k, f k := by
  simp only [Fin.sum_univ_one]

/-- The last point's output from the weight block and the scratches' rows. -/
theorem fin_at (x2 : FVec Ideal S96x128 .f32) (r6 r7 : Fin 4 → FVec Ideal S1x96x128 .f32) :
    fin (F := Ideal) x2 r6 r7 (ix2 0 0)
      = Ideal.div (∑ n : Fin 4, ∑ c : Fin 96, term (∑ j : Fin 128, r6 n (ix3 0 c j)) (∑ j : Fin 128, r7 n (ix3 0 c j)) (fun k => x2 (ix2 k 0)) c) recalls := by
  refine Eq.trans ?_ (div_units fun n c => term (∑ j : Fin 128, r6 n (ix3 0 c j)) (∑ j : Fin 128, r7 n (ix3 0 c j)) (fun k => x2 (ix2 k 0)) c)
  unfold term
  pointwise [fin, wcol, k0_pay1, k0_pay2, k0_pay3, k0_pay4, k0_pay5, k0_pay6]
  rw [← unit_sum (fun k => x2 (ix2 k 0))]
  rfl

/-- The output the last point leaves is the loss of the arguments. -/
theorem outv_at (d : Dev nD) :
    (outv m d : FVec Ideal S1x1 .f32) (ix2 0 0) = loss (argX m d) (argY m d) (argW m d) := by
  unfold outv
  rw [fin_at]
  unfold loss
  refine congrArg (fun s => Ideal.div s recalls) (Finset.sum_congr rfl fun n _ => Finset.sum_congr rfl fun c _ => ?_)
  have h : (fun k => (iblk m d 2 ⟨15, by decide⟩ : FVec Ideal S96x128 .f32) (ix2 k 0)) = fun k => argW m d (ix1 k) :=
    funext fun k => b2_at m d _ k 0
  exact (congrArg₂ (fun a b => term a b _ c) (sum_acc6 m d n c) (sum_acc7 m d n c)).trans (congrArg (fun w => term _ _ w c) h)

/-- The one index of a unit matrix. -/
theorem unit_idx (y : S1x1.Idx) : y = ix2 0 0 := by
  blk_ext

/-- The output array after the run: its one element is the loss. -/
theorem arr_at (d : Dev nD) :
    (dats m 0 d).arrAt 3 (cfgs 0).N = fun _ => loss (argX m d) (argY m d) (argW m d) := by
  refine (dats m 0 d).arrAt_eq_of_covers 3 _ (by decide +kernel) fun t hf y => ?_
  blk_simp
  rw [after3]
  exact (congrArg (outv m d) (unit_idx _)).trans (outv_at m d)

/-- The result buffer after the line that follows the region. -/
theorem W_v5 (d : Dev nD) :
    Pipeline.afterTail₀ cfgs (dats m) 0 (V0 m) [hostOps1] d main_v5 = fun _ => loss (argX m d) (argY m d) (argW m d) := by
  unfold Pipeline.afterTail₀
  simp only [hostOps1, List.flatten_cons, List.flatten_nil, List.append_nil]
  after_results_simp
  have e := Pipeline.withArrays_arr (cfgs 0).spec launch0.win.arr_inj d (V0 m d) (fun w => (dats m 0 d).arrAt w (cfgs 0).N) 3
  rw [arr_at] at e
  funext i
  exact congrFun e _

/-- The launch, read at the result and the arguments. -/
theorem run_value (ρ) : θ_run defs (onTc (τ := τ) (main (F := Ideal))) ⟨m, fun _ => 0, ρ⟩ (fun r => ∀ d : Dev nD,
      r.2.mem ((d.tc : Thread nD τ).loc main_v5) = (fun _ => loss (argX m d) (argY m d) (argW m d))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) :=
  (θ_run defs _ _).mono (fun _ h d =>
    ⟨((h d).2 main_v5 (Pipeline.mem_restRefs_of main_v5 (by decide) (by decide))).trans (W_v5 m d),
      ((h d).2 main_arg0 (Pipeline.mem_restRefs_of main_arg0 (by decide) (by decide))).trans (W_main_arg0 m (dats m) d),
      ((h d).2 main_arg1 (Pipeline.mem_restRefs_of main_arg1 (by decide) (by decide))).trans (W_main_arg1 m (dats m) d),
      ((h d).2 main_arg2 (Pipeline.mem_restRefs_of main_arg2 (by decide) (by decide))).trans (W_main_arg2 m (dats m) d)⟩)
    (run_main m ρ)

end Cert.KernelIdeal.Hand

end
-- ==== Proof.Value.Pixel.lean ====
module

public import Idealize.ShloMosaic.PureOps.Ideal
public import Idealize.ShloMosaic.PureOps.Ideal.Laws

@[expose] public section

noncomputable section

/-! One pixel's class probabilities, over the extended reals: the exponential of the log-probability
    that subtracts the largest logit first equals the plain quotient of exponentials. -/

namespace Cert.Value

open Idealize.ShloMosaic

theorem exp_bot : Ideal.exp ⊥ = 0 := rfl
theorem exp_top : Ideal.exp ⊤ = ⊤ := rfl
theorem exp_coe (r : ℝ) : Ideal.exp (r : EReal) = (Real.exp r : EReal) := rfl

/-- The exponential of a logit below the top element, as a real number. -/
def expReal (x : EReal) : ℝ := if x = ⊥ then 0 else Real.exp x.toReal

theorem expReal_nonneg (x : EReal) : 0 ≤ expReal x := by
  unfold expReal; split
  · exact le_rfl
  · exact (Real.exp_pos _).le

theorem exp_eq_expReal {x : EReal} (h : x ≠ ⊤) : Ideal.exp x = (expReal x : EReal) := by
  induction x with
  | bot => simp [expReal, exp_bot, exp_coe]
  | top => exact absurd rfl h
  | coe a => simp [expReal, exp_bot, exp_coe]

theorem exp_sub_eq {x : EReal} (h : x ≠ ⊤) (r : ℝ) :
    Ideal.exp (x - (r : EReal)) = ((expReal x * Real.exp (-r) : ℝ) : EReal) := by
  induction x with
  | bot => rw [EReal.bot_sub]; simp [expReal, exp_bot, exp_coe]
  | top => exact absurd rfl h
  | coe a =>
    rw [← EReal.coe_sub, exp_coe]
    simp [expReal, exp_coe, sub_eq_add_neg, Real.exp_add]

theorem exp_nonneg (x : EReal) : 0 ≤ Ideal.exp x := by
  by_cases h : x = ⊤
  · subst h; simp [exp_bot, exp_top]
  · rw [exp_eq_expReal h]; exact_mod_cast expReal_nonneg x

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many values is one of them, unless it is the bottom element. -/
theorem exists_eq_fold {ι : Type} (s : Finset ι) (x : ι → EReal) (h : ⊥ < s.fold max ⊥ x) :
    ∃ i ∈ s, x i = s.fold max ⊥ x := by
  classical
  induction s using Finset.induction_on with
  | empty => simp at h
  | insert a s ha ih =>
    rw [Finset.fold_insert ha] at h ⊢
    rcases le_total (s.fold max ⊥ x) (x a) with hle | hle
    · exact ⟨a, Finset.mem_insert_self _ _, (max_eq_left hle).symm⟩
    · rw [max_eq_right hle] at h ⊢
      obtain ⟨i, hi, e⟩ := ih h
      exact ⟨i, Finset.mem_insert_of_mem hi, e⟩

/-- The log-probability road and the quotient road agree at every class of a pixel that has some logit
    above the bottom element. -/
theorem softmax_eq {ι : Type} [Fintype ι] (x : ι → EReal) (t : ι) (h : ⊥ < Finset.univ.fold max ⊥ x) :
    Ideal.exp ((x t - Finset.univ.fold max ⊥ x) - Ideal.log (∑ c, Ideal.exp (x c - Finset.univ.fold max ⊥ x)))
      = Ideal.div (Ideal.exp (x t)) (∑ c, Ideal.exp (x c)) := by
  obtain ⟨i, -, hi⟩ := exists_eq_fold Finset.univ x h
  have hle : ∀ c, x c ≤ Finset.univ.fold max ⊥ x := fun c =>
    (Finset.le_fold_max (x c)).2 (Or.inr ⟨c, Finset.mem_univ c, le_rfl⟩)
  generalize Finset.univ.fold max ⊥ x = M at *
  induction M with
  | bot => exact absurd h (lt_irrefl _)
  | top =>
    have hb : ∀ c, x c - (⊤ : EReal) = ⊥ := fun c => EReal.sub_top _
    have h0 : ∀ c, Ideal.exp (x c - (⊤ : EReal)) = 0 := fun c => by rw [hb]; rfl
    have hs : (∑ c, Ideal.exp (x c)) = ⊤ := by
      refine top_le_iff.1 (le_trans (b := Ideal.exp (x i)) (by rw [hi]; exact le_rfl) ?_)
      exact Finset.single_le_sum (f := fun c => Ideal.exp (x c)) (fun c _ => exp_nonneg _) (Finset.mem_univ i)
    rw [hs, hb, Finset.sum_congr rfl fun c _ => h0 c, EReal.bot_sub]
    simp [exp_bot, Ideal.div]
  | coe r =>
    have hne : ∀ c, x c ≠ ⊤ := fun c e => by
      have := hle c; rw [e] at this; exact absurd (top_le_iff.1 this) (EReal.coe_ne_top r)
    have hS : 0 < ∑ c, expReal (x c) := by
      refine lt_of_lt_of_le ?_ (Finset.single_le_sum (f := fun c => expReal (x c)) (fun c _ => expReal_nonneg _) (Finset.mem_univ i))
      rw [hi]; simp [expReal, Real.exp_pos]
    rw [Finset.sum_congr rfl fun c _ => exp_sub_eq (hne c) r, Finset.sum_congr rfl fun c _ => exp_eq_expReal (hne c),
      ← coe_sum, ← coe_sum, ← Finset.sum_mul]
    have hS' : ((∑ c, expReal (x c) : ℝ) : EReal) ≠ 0 := by
      exact_mod_cast hS.ne'
    have hP : 0 < (∑ c, expReal (x c)) * Real.exp (-r) := mul_pos hS (Real.exp_pos _)
    have hlog : Ideal.log (((∑ c, expReal (x c)) * Real.exp (-r) : ℝ) : EReal) = ((Real.log (∑ c, expReal (x c)) - r : ℝ) : EReal) := by
      show (if _ ≤ (0 : ℝ) then (⊥ : EReal) else _) = _
      rw [if_neg (not_le.2 hP), Real.log_mul hS.ne' (Real.exp_pos _).ne', Real.log_exp, sub_eq_add_neg]
    rw [hlog]
    unfold Ideal.div
    rw [if_neg hS', ← EReal.coe_inv]
    have hxt := hne t
    generalize x t = a at hxt ⊢
    induction a with
    | bot => rw [EReal.bot_sub, EReal.bot_sub]; simp [exp_bot, exp_top]
    | top => exact absurd rfl hxt
    | coe a =>
      rw [← EReal.coe_sub, ← EReal.coe_sub]
      show ((Real.exp _ : ℝ) : EReal) = ((Real.exp a : ℝ) : EReal) * _
      rw [← EReal.coe_mul]
      congr 1
      rw [show a - r - (Real.log (∑ c, expReal (x c)) - r) = a - Real.log (∑ c, expReal (x c)) by ring, Real.exp_sub,
        Real.exp_log hS, div_eq_mul_inv]

end Cert.Value

end
-- ==== Proof.Value.Parts.lean ====
/- The reference's composed term, named in parts. -/
module

public import proofs.«01_k».proof.Proof.Gen.ReferenceIdeal
public import proofs.«01_k».proof.Proof.Gen.ReferenceIdeal.Run
public import proofs.«01_k».proof.Proof.Value.Pixel
public import proofs.«01_k».proof.Proof.Value.Formula
public import Idealize.ShloMosaic.Lib.Tactic.CleanTypes
public import Idealize.ShloMosaic.Lib.Routing.OpsSet

@[expose] public section

set_option maxRecDepth 16384

noncomputable section

namespace Cert.ReferenceIdeal.Value

open Cert.ReferenceIdeal Cert.ReferenceIdeal.Gen Cert.Value
open Idealize.ShloMosaic Idealize.ShloMosaic.TcCoe Idealize.SL.Sem

/-! ## The term in parts -/

/-- Per pixel, the greatest logit. -/
def tops (X : FVec Ideal S4x96x224x224 .f32) : FVec Ideal S4x224x224 .f32 :=
  maximumf (broadcastInDim S4x224x224 ![] bcast_S_S4x224x224 (constant S_ .f32 0xFF800000#32)) (Host.reduce FloatOps.maximumf X (constant S_ .f32 0xFF800000#32) reducesTo_S4x96x224x224_S4x224x224_d1 h_S_)

/-- The logits less the pixel's greatest. -/
def centred (X : FVec Ideal S4x96x224x224 .f32) : FVec Ideal S4x96x224x224 .f32 :=
  subf X (broadcastInDim S4x96x224x224 ![0, 1, 2, 3] bcast_S4x1x224x224_S4x96x224x224_0_1_2_3 (broadcastInDim S4x1x224x224 ![0, 2, 3] bcast_S4x224x224_S4x1x224x224_0_2_3 (tops X)))

/-- Per pixel, the sum of the centred logits' exponentials. -/
def sums (X : FVec Ideal S4x96x224x224 .f32) : FVec Ideal S4x224x224 .f32 :=
  Host.reduceAdd (Host.exp (centred X)) (constant S_ .f32 0x00000000#32) reducesTo_S4x96x224x224_S4x224x224_d1 h_S_

/-- The probabilities. -/
def probs (X : FVec Ideal S4x96x224x224 .f32) : FVec Ideal S4x96x224x224 .f32 :=
  Host.exp (subf (centred X) (broadcastInDim S4x96x224x224 ![0, 1, 2, 3] bcast_S4x1x224x224_S4x96x224x224_0_1_2_3 (Host.log (broadcastInDim S4x1x224x224 ![0, 2, 3] bcast_S4x224x224_S4x1x224x224_0_2_3 (sums X)))))

/-- The probabilities, pixels in one row. -/
def soft (X : FVec Ideal S4x96x224x224 .f32) : FVec Ideal S4x96x50176 .f32 :=
  shapeCast _ (probs X) shapeCasts_S4x96x224x224_S4x96x50176

/-- The labels, pixels in one row. -/
def flat (Y : IVec S4x224x224 32) : IVec S4x50176 32 := shapeCast _ Y shapeCasts_S4x224x224_S4x50176

/-- Where each pixel's one goes: image, class, pixel. -/
def words (Y : IVec S4x224x224 32) : IVec S4x50176x3 32 :=
  ((concatenate S4x50176x3 2 [⟨S4x50176x1, ((broadcastInDim S4x50176x1 ![0, 1] bcast_S4x50176_S4x50176x1_0_1 (broadcastInDim S4x50176 ![0, 1] bcast_S4x1_S4x50176_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0))))) : (⟨S4x50176x1, .i32⟩ : BufTy).Contents (Elt Ideal))⟩, ⟨S4x50176x1, ((broadcastInDim S4x50176x1 ![0, 1] bcast_S4x50176_S4x50176x1_0_1 (select (cmpi .slt (flat Y) (broadcastInDim S4x50176 ![] bcast_S_S4x50176 (constantI S_ 32 0#32))) (addi (flat Y) (broadcastInDim S4x50176 ![] bcast_S_S4x50176 (constantI S_ 32 96#32))) (flat Y))) : (⟨S4x50176x1, .i32⟩ : BufTy).Contents (Elt Ideal))⟩, ⟨S4x50176x1, ((broadcastInDim S4x50176x1 ![0, 1] bcast_S4x50176_S4x50176x1_0_1 (broadcastInDim S4x50176 ![0, 1] bcast_S1x50176_S4x50176_0_1 (select (cmpi .slt (broadcastInDim S1x50176 ![1] bcast_S50176_S1x50176_1 (iotaInDim S50176 32 0)) (broadcastInDim S1x50176 ![] bcast_S_S1x50176 (constantI S_ 32 0#32))) (addi (broadcastInDim S1x50176 ![1] bcast_S50176_S1x50176_1 (iotaInDim S50176 32 0)) (broadcastInDim S1x50176 ![] bcast_S_S1x50176 (constantI S_ 32 50176#32))) (broadcastInDim S1x50176 ![1] bcast_S50176_S1x50176_1 (iotaInDim S50176 32 0))))) : (⟨S4x50176x1, .i32⟩ : BufTy).Contents (Elt Ideal))⟩] concatenates_S4x50176x1_S4x50176x1_S4x50176x1_S4x50176x3_d2 : (⟨S4x50176x3, .i32⟩ : BufTy).Contents (Elt Ideal)))

/-- The labels as one-hot rows. -/
def hot (Y : IVec S4x224x224 32) : FVec Ideal S4x96x50176 .f32 :=
  Host.scatter scatter_S4x96x50176_S4x50176x3_S4x50176_n_012_012_2 (fun _ b => b) (broadcastInDim S4x96x50176 ![] bcast_S_S4x96x50176 (constant S_ .f32 0x00000000#32)) (words Y) (broadcastInDim S4x50176 ![] bcast_S_S4x50176 (constant S_ .f32 0x3F800000#32))

/-- The loss from the probabilities, the one-hot rows and the weights. -/
def total (s o : FVec Ideal S4x96x50176 .f32) (W : FVec Ideal S96 .f32) : FVec Ideal S_ .f32 :=
  Host.divf (Host.reduceAdd (mulf (mulf (subf (broadcastInDim S4x96 ![] bcast_S_S4x96 (constant S_ .f32 0x3F800000#32)) (Host.divf (addf (Host.reduceAdd (mulf s o) (constant S_ .f32 0x00000000#32) reducesTo_S4x96x50176_S4x96_d2 h_S_) (broadcastInDim S4x96 ![] bcast_S_S4x96 (constant S_ .f32 0x3727C5AC#32))) (addf (Host.reduceAdd o (constant S_ .f32 0x00000000#32) reducesTo_S4x96x50176_S4x96_d2 h_S_) (broadcastInDim S4x96 ![] bcast_S_S4x96 (constant S_ .f32 0x3727C5AC#32))))) (broadcastInDim S4x96 ![0, 1] bcast_S1x96_S4x96_0_1 (broadcastInDim S1x96 ![1] bcast_S96_S1x96_1 (Host.divf W (broadcastInDim S96 ![] bcast_S_S96 (Host.reduceAdd W (constant S_ .f32 0x00000000#32) reducesTo_S96_S_d0 h_S_)))))) (broadcastInDim S4x96 ![] bcast_S_S4x96 (constant S_ .f32 0x42C00000#32))) (constant S_ .f32 0x00000000#32) reducesTo_S4x96_S_d0_1 h_S_) (constant S_ .f32 0x43C00000#32)

variable (m : (ℓ : Loc nD τ sig) → Buf (Elt Ideal) ℓ)

theorem res_parts (c : Dev nD) :
    res_main_v51 m c = total (soft (m ((c.tc : Thread nD τ).loc main_arg0))) (hot (m ((c.tc : Thread nD τ).loc main_arg1))) (m ((c.tc : Thread nD τ).loc main_arg2)) := by
  unfold res_main_v51
  rfl

end Cert.ReferenceIdeal.Value

end
-- ==== Proof.Value.Maximum.lean ====
/- A maximum over the class axis, read at a pixel. -/
module

public import Idealize.ShloMosaic.Lib.StableHlo
public import Idealize.ShloMosaic.PureOps
public import Idealize.ShloMosaic.Lib.Pointwise

@[expose] public section

set_option maxRecDepth 16384

noncomputable section

namespace Cert.Value

open Idealize.ShloMosaic Idealize.ShloMosaic.TcCoe Idealize.SL.Sem

/-- A maximum over the second of four axes, at an index, at any sizes. -/
theorem reduce_max_at {A B C D : ℕ} (x : FVec Ideal ⟨4, ![A, B, C, D]⟩ .f32) (init : FVec Ideal ⟨0, ![]⟩ .f32)
    (h : (⟨4, ![A, B, C, D]⟩ : Shape).ReducesTo [1] ⟨3, ![A, C, D]⟩) (hu : 0 < (⟨0, ![]⟩ : Shape).numel) (n : Fin A) (a : Fin C) (b : Fin D) :
    Host.reduce FloatOps.maximumf x init h hu (ix3 n a b)
      = Finset.univ.fold max (init (Shape.Idx.first hu)) fun k : Fin B => x (ix4 n k a b) := by
  simp only [pointwise]

/-- The same, started at the least value and read again against it. -/
theorem max_reduce_max_at {A B C D : ℕ} (x : FVec Ideal ⟨4, ![A, B, C, D]⟩ .f32) (b0 b1 : BitVec 32)
    (h : (⟨4, ![A, B, C, D]⟩ : Shape).ReducesTo [1] ⟨3, ![A, C, D]⟩) (hu : 0 < (⟨0, ![]⟩ : Shape).numel)
    (hb : (⟨0, ![]⟩ : Shape).BroadcastsInDim ⟨3, ![A, C, D]⟩ (![] : Fin 0 → Fin 3)) (n : Fin A) (a : Fin C) (b : Fin D) :
    maximumf (broadcastInDim ⟨3, ![A, C, D]⟩ ![] hb (constant ⟨0, ![]⟩ .f32 b0)) (Host.reduce FloatOps.maximumf x (constant ⟨0, ![]⟩ .f32 b1) h hu) (ix3 n a b)
      = max (Ideal.ofBits .f32 b0) (Finset.univ.fold max (Ideal.ofBits .f32 b1) fun k : Fin B => x (ix4 n k a b)) := by
  pointwise

/-- The printed starting value of a maximum is the least value. -/
theorem ofBits_least : Ideal.ofBits .f32 0xFF800000#32 = ⊥ := by
  simp [Ideal.ofBits, Ideal.ieee]

end Cert.Value

end
-- ==== Proof.Value.Reference.lean ====
/- The reference's result: its composed term is the loss of the arguments. -/
module

public import proofs.«01_k».proof.Proof.Value.Parts
public import proofs.«01_k».proof.Proof.Value.Maximum
public import Idealize.ShloMosaic.Lib.Pointwise

@[expose] public section

set_option maxRecDepth 16384

noncomputable section

namespace Cert.ReferenceIdeal.Value

open Cert.ReferenceIdeal Cert.ReferenceIdeal.Gen Cert.Value
open Idealize.ShloMosaic Idealize.ShloMosaic.TcCoe Idealize.SL.Sem

/-! ## The parts at an index -/

theorem tops_at (X : FVec Ideal S4x96x224x224 .f32) (n : Fin 4) (a b : Fin 224) :
    tops X (ix3 n a b) = Finset.univ.fold max ⊥ fun c => X (ix4 n c a b) := by
  refine (max_reduce_max_at X _ _ _ _ _ n a b).trans ?_
  rw [ofBits_least]
  exact max_eq_right bot_le
theorem centred_at (X : FVec Ideal S4x96x224x224 .f32) (n : Fin 4) (c : Fin 96) (a b : Fin 224) :
    centred X (ix4 n c a b) = X (ix4 n c a b) - tops X (ix3 n a b) := by
  pointwise [centred]

theorem sums_at (X : FVec Ideal S4x96x224x224 .f32) (n : Fin 4)  (a b : Fin 224) :
    sums X (ix3 n a b) = ∑ c : Fin 96, Ideal.exp (centred X (ix4 n c a b)) := by
  pointwise [sums]

theorem probs_at (X : FVec Ideal S4x96x224x224 .f32) (n : Fin 4) (c : Fin 96) (a b : Fin 224) :
    probs X (ix4 n c a b) = Ideal.exp (centred X (ix4 n c a b) - Ideal.log (sums X (ix3 n a b))) := by
  pointwise [probs]

/-- A probability, from its pixel's logits. -/
theorem soft_at (X : FVec Ideal S4x96x224x224 .f32) (n : Fin 4) (c : Fin 96) (p : Fin 50176) :
    soft X (ix3 n c p) = Ideal.exp ((logit X n p c - Finset.univ.fold max ⊥ (logit X n p))
      - Ideal.log (∑ k : Fin 96, Ideal.exp (logit X n p k - Finset.univ.fold max ⊥ (logit X n p)))) := by
  pointwise [soft]
  rw [probs_at, sums_at]
  simp only [centred_at, tops_at]
  rfl

/-- The loss's total. -/
theorem total_at (s o : FVec Ideal S4x96x50176 .f32) (W : FVec Ideal S96 .f32) (i : S_.Idx) :
    total s o W i = Ideal.div (∑ n : Fin 4, ∑ c : Fin 96,
      term (∑ p : Fin 50176, s (ix3 n c p) * o (ix3 n c p)) (∑ p : Fin 50176, o (ix3 n c p)) (fun k => W (ix1 k)) c) recalls := by
  unfold term
  pointwise [total]
  simp only [mul_assoc]
  rfl

/-! ## The one-hot rows -/

/-- A word that is not negative is its own wrap. -/
theorem wrap_nonneg (y a : BitVec 32) (h : 0 ≤ y.toInt) : Scalar.select (IntOp.cmpi .slt y 0#32) a y = y := by
  have : y.slt 0#32 = false := by
    simp [BitVec.slt, h]
  simp [Scalar.select, IntOp.cmpi, this]

theorem toInt_small (k : ℕ) (h : k < 2 ^ 31) : (BitVec.ofNat 32 k).toInt = k := by
  rw [BitVec.toInt_eq_toNat_of_lt] <;> simp <;> omega

theorem words_0 (Y : IVec S4x224x224 32) (n : Fin 4) (p : Fin 50176) : (words Y (ix3 n p 0)).toInt = n.val := by
  have e : words Y (ix3 n p 0) = BitVec.ofNat 32 n.val := by
    pointwise [words, flat]
    exact wrap_nonneg _ _ (by rw [toInt_small _ (by omega)]; omega)
  rw [e, toInt_small _ (by omega)]

theorem words_1 (Y : IVec S4x224x224 32) (n : Fin 4) (p : Fin 50176) (h : 0 ≤ (label Y n p).toInt) : words Y (ix3 n p 1) = label Y n p := by
  pointwise [words, flat]
  exact wrap_nonneg _ _ h

theorem words_2 (Y : IVec S4x224x224 32) (n : Fin 4) (p : Fin 50176) : (words Y (ix3 n p 2)).toInt = p.val := by
  have e : words Y (ix3 n p 2) = BitVec.ofNat 32 p.val := by
    pointwise [words, flat]
    exact wrap_nonneg _ _ (by rw [toInt_small _ (by omega)]; omega)
  rw [e, toInt_small _ (by omega)]

abbrev sd := scatter_S4x96x50176_S4x50176x3_S4x50176_n_012_012_2

theorem start_at (I : IVec S4x50176x3 32) (n : Fin 4) (p : Fin 50176) (a : Fin 3) : sd.start (ix2 n p) I a = (I (ix3 n p a)).toInt := by
  fin_cases a
  all_goals
    unfold ScatterDims.start
    rw [dif_pos (by decide)]
    refine congrArg (fun i => (I i).toInt) (funext fun b => ?_)
    fin_cases b <;> rfl

theorem window_at (k : S4x50176.Idx) (a : Fin 3) : sd.window k a = 0 := by
  fin_cases a <;> rfl

/-- Where pixel `q` of image `k` puts its one: at its own class, image and place. -/
theorem lands (Y : IVec S4x224x224 32) (k n : Fin 4) (q p : Fin 50176) (c : Fin 96) (h : 0 ≤ (label Y k q).toInt) :
    sd.resultIdx? (ix2 k q) (words Y) = some (ix3 n c p) ↔ k = n ∧ (label Y k q).toInt = c.val ∧ q = p := by
  rw [Routing.resultIdx?_eq_some]
  constructor
  · intro e
    have e0 := e 0
    have e1 := e 1
    have e2 := e 2
    rw [start_at, window_at] at e0 e1 e2
    rw [words_0] at e0
    rw [words_1 Y k q h] at e1
    rw [words_2] at e2
    refine ⟨Fin.ext ?_, ?_, Fin.ext ?_⟩
    · have : ((ix3 n c p : S4x96x50176.Idx) 0).val = n.val := rfl
      omega
    · have : ((ix3 n c p : S4x96x50176.Idx) 1).val = c.val := rfl
      omega
    · have : ((ix3 n c p : S4x96x50176.Idx) 2).val = p.val := rfl
      omega
  · rintro ⟨rfl, e, rfl⟩ a
    rw [start_at, window_at]
    fin_cases a
    · exact (congrArg (· + ((0 : ℕ) : Int)) (words_0 Y k q)).trans (add_zero _)
    · exact (congrArg (· + ((0 : ℕ) : Int)) ((congrArg BitVec.toInt (words_1 Y k q h)).trans e)).trans (add_zero _)
    · exact (congrArg (· + ((0 : ℕ) : Int)) (words_2 Y k q)).trans (add_zero _)

theorem label_class (y : BitVec 32) (c : Fin 96) : y.toInt = c.val ↔ BitVec.ofNat 32 c.val = y := by
  rw [← toInt_small c.val (by omega), BitVec.toInt_inj]
  exact eq_comm

/-- A one-hot row, at a class. -/
theorem hot_at (Y : IVec S4x224x224 32) (h : ∀ n p, 0 ≤ (label Y n p).toInt) (n : Fin 4) (c : Fin 96) (p : Fin 50176) :
    hot Y (ix3 n c p) = mask (label Y n p) c := by
  have ix (k : S4x50176.Idx) : k = ix2 (k 0) (k 1) := by
    funext a
    fin_cases a <;> rfl
  unfold hot mask
  by_cases e : BitVec.ofNat 32 c.val = label Y n p
  · rw [if_pos e]
    refine Routing.scatter_set_hit _ _ _ _ _ _ (fun k _ => ?_) (ix2 n p) ((lands Y n n p p c (h n p)).2 ⟨rfl, (label_class _ c).2 e, rfl⟩)
    pointwise
  · rw [if_neg e]
    refine (Routing.scatter_set_miss _ _ _ _ _ fun k hk => e ?_).trans ?_
    · rw [ix k] at hk
      obtain ⟨h0, h1, h2⟩ := (lands Y (k 0) n (k 1) p c (h _ _)).1 hk
      rw [h0, h2] at h1
      exact (label_class _ c).1 h1
    · pointwise

/-! ## The result -/

/-- A sum that keeps the label's class only. -/
theorem sum_label (x : Fin 96 → EReal) (y : BitVec 32) (c : Fin 96) (h : BitVec.ofNat 32 c.val = y) :
    (∑ k : Fin 96, if BitVec.ofNat 32 k.val = y then x k else 0) = x c := by
  refine (Finset.sum_eq_single c (fun k _ hk => if_neg fun e => hk (Fin.ext ?_)) fun hc => absurd (Finset.mem_univ _) hc).trans (if_pos h)
  have := (label_class y k).2 e
  have := (label_class y c).2 h
  omega

/-- A probability times its one-hot entry is the label's share. -/
theorem soft_hot (X : FVec Ideal S4x96x224x224 .f32) (Y : IVec S4x224x224 32) (hX : ∀ n p, ⊥ < Finset.univ.fold max ⊥ (logit X n p))
    (hY : ∀ n p, 0 ≤ (label Y n p).toInt) (n : Fin 4) (c : Fin 96) (p : Fin 50176) :
    soft X (ix3 n c p) * hot Y (ix3 n c p) = prob (logit X n p) (label Y n p) c := by
  rw [hot_at Y hY, soft_at, softmax_eq _ _ (hX n p)]
  unfold mask prob
  by_cases e : BitVec.ofNat 32 c.val = label Y n p
  · rw [if_pos e, if_pos e, mul_one, sum_label _ _ c e]
  · rw [if_neg e, if_neg e, mul_zero]

variable (m : (ℓ : Loc nD τ sig) → Buf (Elt Ideal) ℓ)

/-- The reference's result is the loss. -/
theorem res_loss (d : Dev nD) (X : FVec Ideal S4x96x224x224 .f32) (Y : IVec S4x224x224 32) (W : FVec Ideal S96 .f32)
    (hx : m ((d.tc : Thread nD τ).loc main_arg0) = X) (hy : m ((d.tc : Thread nD τ).loc main_arg1) = Y) (hw : m ((d.tc : Thread nD τ).loc main_arg2) = W)
    (hX : ∀ n p, ⊥ < Finset.univ.fold max ⊥ (logit X n p)) (hY : ∀ n p, 0 ≤ (label Y n p).toInt) :
    res_main_v51 m d = fun _ => loss X Y W := by
  rw [res_parts, hx, hy, hw]
  funext i
  refine (total_at _ _ _ i).trans ?_
  unfold loss mass Cert.Value.count
  exact congrArg (fun s => Ideal.div s recalls) (Finset.sum_congr rfl fun n _ => Finset.sum_congr rfl fun c _ =>
    congrArg₂ (fun a b => term a b _ c) (Finset.sum_congr rfl fun p _ => soft_hot X Y hX hY n c p)
      (Finset.sum_congr rfl fun p _ => hot_at Y hY n c p))

end Cert.ReferenceIdeal.Value

end
-- ==== Proof.Value.Pre.lean ====
/- What the precondition says of the arguments. -/
module

public import proofs.«01_k».proof.Pre_some_logit_and_nonnegative_target
public import proofs.«01_k».proof.Proof.Value.Formula
public import proofs.«01_k».proof.Proof.Value.Maximum
public import Idealize.ShloMosaic.Lib.ReduceAll
public import Idealize.ShloMosaic.Lib.Affine
public import Idealize.ShloMosaic.Lib.Pointwise

@[expose] public section

set_option maxRecDepth 16384

noncomputable section

namespace Cert.Value

open Idealize.ShloMosaic

/-- A maximum over the second of four axes found greater than a constant is greater, at any sizes. -/
theorem lt_of_ogt_at {A B C D : ℕ} (x : FVec Ideal ⟨4, ![A, B, C, D]⟩ .f32) (b0 b1 : BitVec 32)
    (h : (⟨4, ![A, B, C, D]⟩ : Shape).ReducesTo [1] ⟨3, ![A, C, D]⟩) (hu : 0 < (⟨0, ![]⟩ : Shape).numel)
    (hb : (⟨0, ![]⟩ : Shape).BroadcastsInDim ⟨3, ![A, C, D]⟩ (![] : Fin 0 → Fin 3)) (n : Fin A) (a : Fin C) (b : Fin D)
    (e : cmpf .ogt (Host.reduce FloatOps.maximumf x (constant ⟨0, ![]⟩ .f32 b1) h hu) (broadcastInDim ⟨3, ![A, C, D]⟩ ![] hb (constant ⟨0, ![]⟩ .f32 b0)) (ix3 n a b) = 1#1) :
    Ideal.ofBits .f32 b0 < Finset.univ.fold max (Ideal.ofBits .f32 b1) fun k : Fin B => x (ix4 n k a b) := by
  have e' : BitVec.ofBool (decide (Ideal.ofBits .f32 b0 < Host.reduce FloatOps.maximumf x (constant ⟨0, ![]⟩ .f32 b1) h hu (ix3 n a b))) = 1#1 := e
  rw [reduce_max_at] at e'
  exact of_decide_eq_true ((by decide : ∀ d : Bool, BitVec.ofBool d = 1#1 → d = true) _ e')

end Cert.Value

namespace Cert.Pre_some_logit_and_nonnegative_target

open Idealize.ShloMosaic Cert.Value

theorem facts : Facts where
  reducesTo_S4x96x224x224_S4x224x224_d1 := by decide
  h_S_ := by decide
  bcast_S_S4x224x224 := by decide
  reducesTo_S4x224x224_S_d0_1_2 := by decide

variable [Facts]

/-- Every pixel has a logit above the least value, and no label is negative. -/
theorem fn_says (X : FVec Ideal S4x96x224x224 .f32) (Y : IVec S4x224x224 32) (W : FVec Ideal S96 .f32)
    (h : fn (F := Ideal) X Y W = fun _ => 1#1) :
    (∀ n p, ⊥ < Finset.univ.fold max ⊥ (logit X n p)) ∧ ∀ n p, 0 ≤ (label Y n p).toInt := by
  have h0 := congrFun h (fun a => a.elim0)
  dsimp only [fn] at h0
  have h1 := IntOp.andi_eq_one.1 h0
  refine ⟨fun n p => ?_, fun n p => ?_⟩
  · have := Host.reduce_andi_all _ _ _ _ _ h1.1 (ix3 n ⟨p.val / 224, by have := p.isLt; omega⟩ ⟨p.val % 224, Nat.mod_lt _ (by decide)⟩)
    have := lt_of_ogt_at X _ _ _ _ _ _ _ _ this
    rw [ofBits_least] at this
    exact this
  · have := Host.reduce_andi_all _ _ _ _ _ h1.2 (ix3 n ⟨p.val / 224, by have := p.isLt; omega⟩ ⟨p.val % 224, Nat.mod_lt _ (by decide)⟩)
    exact IntOp.cmpi_sge.1 this

end Cert.Pre_some_logit_and_nonnegative_target

end
-- ==== Proof.lean ====
/- The certificate's claim, assembled: the frames of the three programs are the hand-written runs under
   Proof/Kernel and Proof/KernelIdeal and the reference's generated run; the value claim is that both results are
   the loss of the arguments (Proof/Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Value.Kernel
public import proofs.«01_k».proof.Proof.Value.Reference
public import proofs.«01_k».proof.Proof.Value.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments and its semaphore counters end as the claims ask. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run m ρ)

/-- Kernel and reference end at the same result: the loss of the arguments. -/
theorem value : Cert.algebraic_KernelIdeal_ReferenceIdeal_pre_some_logit_and_nonnegative_target
    (hKernelIdeal := Cert.KernelIdeal.Gen.facts) (hReferenceIdeal := Cert.ReferenceIdeal.Gen.facts)
    (hPre_some_logit_and_nonnegative_target := Cert.Pre_some_logit_and_nonnegative_target.facts) := by
  intro m g m' g' hpre hagree
  refine ⟨_, Cert.KernelIdeal.Hand.run_value m g, (θ_run Cert.ReferenceIdeal.defs _ _).mono (fun r h c => ⟨(h c).1.trans ?_, (h c).2⟩)
    (Cert.ReferenceIdeal.Value.run (F := Ideal) m' g')⟩
  have hp := @Cert.Pre_some_logit_and_nonnegative_target.fn_says Cert.Pre_some_logit_and_nonnegative_target.facts _ _ _ (hpre c)
  obtain ⟨hx, hy, hw⟩ := hagree c
  exact Cert.ReferenceIdeal.Value.res_loss m' c _ _ _ hx hy hw hp.1 hp.2

theorem claim : Cert.Claim :=
  ⟨Cert.Kernel.Gen.facts, Cert.KernelIdeal.Gen.facts, Cert.ReferenceIdeal.Gen.facts, Cert.Pre_some_logit_and_nonnegative_target.facts,
    fun m ρ _ => Cert.Kernel.Hand.frame m ρ,
    fun m ρ _ => Cert.KernelIdeal.Hand.frame m ρ,
    fun m ρ _ => Cert.KernelIdeal.Hand.frame m ρ,
    reference_frame,
    fun m ρ _ => reference_frame m ρ trivial,
    trivial,
    value⟩

end Cert.Proof

end
